-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)

variable [Facts]

def fn {F : FTy → Type} [FloatOps F] (main_arg0 : FVec F S128x100000 .f32) : IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  main_v5
-- ==== Kernel.lean ====
abbrev S128x100000 : Shape := ⟨2, ![128, 100000]⟩
abbrev S16x100000 : Shape := ⟨2, ![16, 100000]⟩
abbrev S16x1 : Shape := ⟨2, ![16, 1]⟩
abbrev S16x512 : Shape := ⟨2, ![16, 512]⟩
abbrev S16 : Shape := ⟨1, ![16]⟩
abbrev S16x160 : Shape := ⟨2, ![16, 160]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S16x100000, .f32⟩
  | .local _ .vmem, ⟨1, _⟩ => ⟨S16x100000, .f32⟩
  | .local _ .vmem, ⟨2, _⟩ => ⟨S16x100000, .f32⟩
  | .local _ .vmem, ⟨3, _⟩ => ⟨S16x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c8_i32 : BitVec 32 := 8#32
  let v13 : BitVec 32 := Scalar.addi c0_i32_1 c8_i32
  let c1_i32 : BitVec 32 := 1#32
  ⟨c0_i32_1, v13, c1_i32⟩
def k0_off1 (k0_t1 : Fin k0_t1_loop.trips) (c0_i32_432 : BitVec 32) : Fin 2 → Nat :=
  let c0_490 : Index := 0#32
  let c24_i32 : BitVec 32 := 24#32
  let c0_i32_1 : BitVec 32 := 0#32
  let c1_i32 : BitVec 32 := 1#32
  let arg3 : BitVec 32 := Scf.iv c0_i32_1 c1_i32 k0_t1
  let v2160 : BitVec 32 := Scalar.muli c24_i32 arg3
  let v2161 : BitVec 32 := Scalar.addi v2160 c0_i32_432
  let c512_i32_433 : BitVec 32 := 512#32
  let v2162 : BitVec 32 := Scalar.muli v2161 c512_i32_433
  let v2344 : Index := Scalar.indexCast v2162
  ![0, v2344.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 553
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x100000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .f32⟩
  | 121 => ⟨S_, .f32⟩
  | 122 => ⟨S_, .f32⟩
  | 123 => ⟨S_, .f32⟩
  | 124 => ⟨S1x1, .f32⟩
  | 125 => ⟨S1x1, .f32⟩
  | 126 => ⟨S1, .i32⟩
  | 127 => ⟨S_, .i32⟩
  | _ => ⟨S128x100000, .f32⟩

abbrev hbmTy0_2 (i : Nat) : BufTy := match i % 128 with
  | 0 => ⟨S1, .i32⟩
  | 1 => ⟨S_, .i32⟩
  | 2 => ⟨S128x100000, .i64⟩
  | 3 => ⟨S128x100000, .i64⟩
  | 4 => ⟨S_, .i64⟩
  | 5 => ⟨S128x100000, .i64⟩
  | 6 => ⟨S128x100000, .i64⟩
  | 7 => ⟨S_, .i64⟩
  | 8 => ⟨S128x100000, .i64⟩
  | 9 => ⟨S128x100000, .i64⟩
  | 10 => ⟨S128x100000, .i64⟩
  | 11 => ⟨S_, .i64⟩
  | 12 => ⟨S128x100000, .i64⟩
  | 13 => ⟨S128x100000, .i64⟩
  | 14 => ⟨S128x100000, .i32⟩
  | 15 => ⟨S128x100000, .i32⟩
  | 16 => ⟨S_, .i32⟩
  | 17 => ⟨S_, .i32⟩
  | 18 => ⟨S_, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_3 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .f32⟩
  | 118 => ⟨S_, .f32⟩
  | 119 => ⟨S128x100000, .f32⟩
  | 120 => ⟨S128x100000, .f32⟩
  | 121 => ⟨S1x1, .f32⟩
  | 122 => ⟨S128x100000, .f32⟩
  | 123 => ⟨S128x100000, .f32⟩
  | 124 => ⟨S128x100000, .f32⟩
  | 125 => ⟨S128x100000, .f32⟩
  | 126 => ⟨S128x100000, .f32⟩
  | 127 => ⟨S128x100000, .f32⟩
  | _ => ⟨S128x100000, .f32⟩

abbrev hbmTy0_4 (i : Nat) : BufTy := match i % 128 with
  | 0 => ⟨S_, .f32⟩
  | 1 => ⟨S128x100000, .f32⟩
  | 2 => ⟨S128x100000, .f32⟩
  | 3 => ⟨S128x100000, .f32⟩
  | 4 => ⟨S128x100000, .f32⟩
  | 5 => ⟨S_, .f32⟩
  | 6 => ⟨S128x100000, .f32⟩
  | 7 => ⟨S128x100000, .f32⟩
  | 8 => ⟨S128x100000, .f32⟩
  | 9 => ⟨S128x100000, .f32⟩
  | 10 => ⟨S128x100000, .f32⟩
  | 11 => ⟨S_, .f32⟩
  | 12 => ⟨S128x100000, .f32⟩
  | 13 => ⟨S128x100000, .f32⟩
  | 14 => ⟨S_, .f32⟩
  | 15 => ⟨S128, .f32⟩
  | 16 => ⟨S_, .f32⟩
  | 17 => ⟨S128, .f32⟩
  | 18 => ⟨S128, .f32⟩
  | 19 => ⟨S128x1, .f32⟩
  | 20 => ⟨S128x100000, .f32⟩
  | 21 => ⟨S128x100000, .f32⟩
  | 22 => ⟨S128x100000, .f32⟩
  | 23 => ⟨S_, .f32⟩
  | 24 => ⟨S128, .f32⟩
  | 25 => ⟨S128x1, .f32⟩
  | 26 => ⟨S128x100000, .f32⟩
  | 27 => ⟨S128x100000, .f32⟩
  | 28 => ⟨S128x100000, .i32⟩
  | 29 => ⟨S_, .f32⟩
  | 30 => ⟨S_, .i32⟩
  | 31 => ⟨S128, .f32⟩
  | 32 => ⟨S128, .i32⟩
  | 33 => ⟨S128x1, .i32⟩
  | 34 => ⟨S1x100000, .i32⟩
  | 35 => ⟨S128x100000, .i32⟩
  | 36 => ⟨S128x100000, .i32⟩
  | 37 => ⟨S128x100000, .i1⟩
  | 38 => ⟨S128x100000, .f32⟩
  | 39 => ⟨S128x100000, .f32⟩
  | 40 => ⟨S128x100000, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_cst : Ref sig .tc := ⟨.hbm, 248, rfl⟩
abbrev main_cst_3 : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_v9 : Ref sig .tc := ⟨.hbm, 259, rfl⟩
abbrev main_call1_c : Ref sig .tc := ⟨.hbm, 260, rfl⟩
abbrev main_call1_v10 : Ref sig .tc := ⟨.hbm, 261, rfl⟩
abbrev main_call1_v11 : Ref sig .tc := ⟨.hbm, 262, rfl⟩
abbrev main_call1_c_0 : Ref sig .tc := ⟨.hbm, 263, rfl⟩
abbrev main_call1_v12 : Ref sig .tc := ⟨.hbm, 264, rfl⟩
abbrev main_call1_v13 : Ref sig .tc := ⟨.hbm, 265, rfl⟩
abbrev main_call1_v14 : Ref sig .tc := ⟨.hbm, 266, rfl⟩
abbrev main_call1_c_1 : Ref sig .tc := ⟨.hbm, 267, rfl⟩
abbrev main_call1_v15 : Ref sig .tc := ⟨.hbm, 268, rfl⟩
abbrev main_call1_v16 : Ref sig .tc := ⟨.hbm, 269, rfl⟩
abbrev main_call1_v17 : Ref sig .tc := ⟨.hbm, 270, rfl⟩
abbrev main_call1_v18 : Ref sig .tc := ⟨.hbm, 271, rfl⟩
abbrev main_call1_call0_v0 : Ref sig .tc := ⟨.hbm, 272, rfl⟩
abbrev main_call1_call0_c : Ref sig .tc := ⟨.hbm, 273, rfl⟩
abbrev main_call1_call0_v1 : Ref sig .tc := ⟨.hbm, 274, rfl⟩
abbrev main_call1_call0_v2 : Ref sig .tc := ⟨.hbm, 275, rfl⟩
abbrev main_call1_call0_v3 : Ref sig .tc := ⟨.hbm, 276, rfl⟩
abbrev main_call1_call0_v4 : Ref sig .tc := ⟨.hbm, 277, rfl⟩
abbrev main_call1_call0_v5 : Ref sig .tc := ⟨.hbm, 278, rfl⟩
abbrev main_call1_call0_v6 : Ref sig .tc := ⟨.hbm, 279, rfl⟩
abbrev main_call1_call0_c_0 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_c_1 : Ref sig .tc := ⟨.hbm, 283, rfl⟩
abbrev main_call1_call0_v9 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_v12 : Ref sig .tc := ⟨.hbm, 287, rfl⟩
abbrev main_call1_call0_v13 : Ref sig .tc := ⟨.hbm, 288, rfl⟩
abbrev main_call1_call0_c_2 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_c_3 : Ref sig .tc := ⟨.hbm, 292, rfl⟩
abbrev main_call1_call0_v16 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_v19 : Ref sig .tc := ⟨.hbm, 296, rfl⟩
abbrev main_call1_call0_v20 : Ref sig .tc := ⟨.hbm, 297, rfl⟩
abbrev main_call1_call0_c_4 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_c_5 : Ref sig .tc := ⟨.hbm, 301, rfl⟩
abbrev main_call1_call0_v23 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_v26 : Ref sig .tc := ⟨.hbm, 305, rfl⟩
abbrev main_call1_call0_v27 : Ref sig .tc := ⟨.hbm, 306, rfl⟩
abbrev main_call1_call0_c_6 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_c_7 : Ref sig .tc := ⟨.hbm, 310, rfl⟩
abbrev main_call1_call0_v30 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_v33 : Ref sig .tc := ⟨.hbm, 314, rfl⟩
abbrev main_call1_call0_v34 : Ref sig .tc := ⟨.hbm, 315, rfl⟩
abbrev main_call1_call0_v35 : Ref sig .tc := ⟨.hbm, 316, rfl⟩
abbrev main_call1_call0_v36 : Ref sig .tc := ⟨.hbm, 317, rfl⟩
abbrev main_call1_call0_v37 : Ref sig .tc := ⟨.hbm, 318, rfl⟩
abbrev main_call1_call0_c_8 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_9 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_c_10 : Ref sig .tc := ⟨.hbm, 326, rfl⟩
abbrev main_call1_call0_v43 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_v46 : Ref sig .tc := ⟨.hbm, 330, rfl⟩
abbrev main_call1_call0_v47 : Ref sig .tc := ⟨.hbm, 331, rfl⟩
abbrev main_call1_call0_c_11 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_c_12 : Ref sig .tc := ⟨.hbm, 335, rfl⟩
abbrev main_call1_call0_v50 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_v53 : Ref sig .tc := ⟨.hbm, 339, rfl⟩
abbrev main_call1_call0_v54 : Ref sig .tc := ⟨.hbm, 340, rfl⟩
abbrev main_call1_call0_c_13 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_c_14 : Ref sig .tc := ⟨.hbm, 344, rfl⟩
abbrev main_call1_call0_v57 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_v60 : Ref sig .tc := ⟨.hbm, 348, rfl⟩
abbrev main_call1_call0_v61 : Ref sig .tc := ⟨.hbm, 349, rfl⟩
abbrev main_call1_call0_c_15 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_c_16 : Ref sig .tc := ⟨.hbm, 353, rfl⟩
abbrev main_call1_call0_v64 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_v67 : Ref sig .tc := ⟨.hbm, 357, rfl⟩
abbrev main_call1_call0_v68 : Ref sig .tc := ⟨.hbm, 358, rfl⟩
abbrev main_call1_call0_v69 : Ref sig .tc := ⟨.hbm, 359, rfl⟩
abbrev main_call1_call0_v70 : Ref sig .tc := ⟨.hbm, 360, rfl⟩
abbrev main_call1_call0_v71 : Ref sig .tc := ⟨.hbm, 361, rfl⟩
abbrev main_call1_call0_c_17 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_18 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_c_19 : Ref sig .tc := ⟨.hbm, 369, rfl⟩
abbrev main_call1_call0_v77 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_v80 : Ref sig .tc := ⟨.hbm, 373, rfl⟩
abbrev main_call1_call0_v81 : Ref sig .tc := ⟨.hbm, 374, rfl⟩
abbrev main_call1_call0_c_20 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_c_21 : Ref sig .tc := ⟨.hbm, 378, rfl⟩
abbrev main_call1_call0_v84 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_v87 : Ref sig .tc := ⟨.hbm, 382, rfl⟩
abbrev main_call1_call0_v88 : Ref sig .tc := ⟨.hbm, 383, rfl⟩
abbrev main_call1_call0_c_22 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_c_23 : Ref sig .tc := ⟨.hbm, 387, rfl⟩
abbrev main_call1_call0_v91 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_v94 : Ref sig .tc := ⟨.hbm, 391, rfl⟩
abbrev main_call1_call0_v95 : Ref sig .tc := ⟨.hbm, 392, rfl⟩
abbrev main_call1_call0_c_24 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_c_25 : Ref sig .tc := ⟨.hbm, 396, rfl⟩
abbrev main_call1_call0_v98 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_v101 : Ref sig .tc := ⟨.hbm, 400, rfl⟩
abbrev main_call1_call0_v102 : Ref sig .tc := ⟨.hbm, 401, rfl⟩
abbrev main_call1_call0_v103 : Ref sig .tc := ⟨.hbm, 402, rfl⟩
abbrev main_call1_call0_v104 : Ref sig .tc := ⟨.hbm, 403, rfl⟩
abbrev main_call1_call0_v105 : Ref sig .tc := ⟨.hbm, 404, rfl⟩
abbrev main_call1_call0_c_26 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_27 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_c_28 : Ref sig .tc := ⟨.hbm, 412, rfl⟩
abbrev main_call1_call0_v111 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_v114 : Ref sig .tc := ⟨.hbm, 416, rfl⟩
abbrev main_call1_call0_v115 : Ref sig .tc := ⟨.hbm, 417, rfl⟩
abbrev main_call1_call0_c_29 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_c_30 : Ref sig .tc := ⟨.hbm, 421, rfl⟩
abbrev main_call1_call0_v118 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_v121 : Ref sig .tc := ⟨.hbm, 425, rfl⟩
abbrev main_call1_call0_v122 : Ref sig .tc := ⟨.hbm, 426, rfl⟩
abbrev main_call1_call0_c_31 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_c_32 : Ref sig .tc := ⟨.hbm, 430, rfl⟩
abbrev main_call1_call0_v125 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_v128 : Ref sig .tc := ⟨.hbm, 434, rfl⟩
abbrev main_call1_call0_v129 : Ref sig .tc := ⟨.hbm, 435, rfl⟩
abbrev main_call1_call0_c_33 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_c_34 : Ref sig .tc := ⟨.hbm, 439, rfl⟩
abbrev main_call1_call0_v132 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_v135 : Ref sig .tc := ⟨.hbm, 443, rfl⟩
abbrev main_call1_call0_v136 : Ref sig .tc := ⟨.hbm, 444, rfl⟩
abbrev main_call1_call0_v137 : Ref sig .tc := ⟨.hbm, 445, rfl⟩
abbrev main_call1_call0_v138 : Ref sig .tc := ⟨.hbm, 446, rfl⟩
abbrev main_call1_call0_v139 : Ref sig .tc := ⟨.hbm, 447, rfl⟩
abbrev main_call1_call0_c_35 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_36 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_c_37 : Ref sig .tc := ⟨.hbm, 455, rfl⟩
abbrev main_call1_call0_v145 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_v148 : Ref sig .tc := ⟨.hbm, 459, rfl⟩
abbrev main_call1_call0_v149 : Ref sig .tc := ⟨.hbm, 460, rfl⟩
abbrev main_call1_call0_c_38 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_c_39 : Ref sig .tc := ⟨.hbm, 464, rfl⟩
abbrev main_call1_call0_v152 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_v155 : Ref sig .tc := ⟨.hbm, 468, rfl⟩
abbrev main_call1_call0_v156 : Ref sig .tc := ⟨.hbm, 469, rfl⟩
abbrev main_call1_call0_c_40 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_c_41 : Ref sig .tc := ⟨.hbm, 473, rfl⟩
abbrev main_call1_call0_v159 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_v162 : Ref sig .tc := ⟨.hbm, 477, rfl⟩
abbrev main_call1_call0_v163 : Ref sig .tc := ⟨.hbm, 478, rfl⟩
abbrev main_call1_call0_c_42 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_c_43 : Ref sig .tc := ⟨.hbm, 482, rfl⟩
abbrev main_call1_call0_v166 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_v169 : Ref sig .tc := ⟨.hbm, 486, rfl⟩
abbrev main_call1_call0_v170 : Ref sig .tc := ⟨.hbm, 487, rfl⟩
abbrev main_call1_v19_0 : Ref sig .tc := ⟨.hbm, 488, rfl⟩
abbrev main_call1_call0_v172 : Ref sig .tc := ⟨.hbm, 489, rfl⟩
abbrev main_call1_call0_v173 : Ref sig .tc := ⟨.hbm, 490, rfl⟩
abbrev main_call1_call0_c_44 : Ref sig .tc := ⟨.hbm, 491, rfl⟩
abbrev main_call1_call0_v174 : Ref sig .tc := ⟨.hbm, 492, rfl⟩
abbrev main_call1_v19_1 : Ref sig .tc := ⟨.hbm, 493, rfl⟩
abbrev main_call1_v20 : Ref sig .tc := ⟨.hbm, 494, rfl⟩
abbrev main_call1_c_2 : Ref sig .tc := ⟨.hbm, 495, rfl⟩
abbrev main_call1_v21 : Ref sig .tc := ⟨.hbm, 496, rfl⟩
abbrev main_call1_v22 : Ref sig .tc := ⟨.hbm, 497, rfl⟩
abbrev main_call1_c_3 : Ref sig .tc := ⟨.hbm, 498, rfl⟩
abbrev main_call1_v23 : Ref sig .tc := ⟨.hbm, 499, rfl⟩
abbrev main_call1_v24 : Ref sig .tc := ⟨.hbm, 500, rfl⟩
abbrev main_call1_v25 : Ref sig .tc := ⟨.hbm, 501, rfl⟩
abbrev main_call1_cst : Ref sig .tc := ⟨.hbm, 502, rfl⟩
abbrev main_call1_v26 : Ref sig .tc := ⟨.hbm, 503, rfl⟩
abbrev main_call1_v27 : Ref sig .tc := ⟨.hbm, 504, rfl⟩
abbrev main_call1_v28 : Ref sig .tc := ⟨.hbm, 505, rfl⟩
abbrev main_call1_v29 : Ref sig .tc := ⟨.hbm, 506, rfl⟩
abbrev main_call1_v30 : Ref sig .tc := ⟨.hbm, 507, rfl⟩
abbrev main_call1_v31 : Ref sig .tc := ⟨.hbm, 508, rfl⟩
abbrev main_call1_v32 : Ref sig .tc := ⟨.hbm, 509, rfl⟩
abbrev main_call1_v33 : Ref sig .tc := ⟨.hbm, 510, rfl⟩
abbrev main_v8 : Ref sig .tc := ⟨.hbm, 511, rfl⟩
abbrev main_cst_4 : Ref sig .tc := ⟨.hbm, 512, rfl⟩
abbrev main_v9 : Ref sig .tc := ⟨.hbm, 513, rfl⟩
abbrev main_v10 : Ref sig .tc := ⟨.hbm, 514, rfl⟩
abbrev main_v11 : Ref sig .tc := ⟨.hbm, 515, rfl⟩
abbrev main_v12 : Ref sig .tc := ⟨.hbm, 516, rfl⟩
abbrev main_cst_5 : Ref sig .tc := ⟨.hbm, 517, rfl⟩
abbrev main_v13 : Ref sig .tc := ⟨.hbm, 518, rfl⟩
abbrev main_v14 : Ref sig .tc := ⟨.hbm, 519, rfl⟩
abbrev main_v15 : Ref sig .tc := ⟨.hbm, 520, rfl⟩
abbrev main_v16 : Ref sig .tc := ⟨.hbm, 521, rfl⟩
abbrev main_v17 : Ref sig .tc := ⟨.hbm, 522, rfl⟩
abbrev main_cst_6 : Ref sig .tc := ⟨.hbm, 523, rfl⟩
abbrev main_v18 : Ref sig .tc := ⟨.hbm, 524, rfl⟩
abbrev main_v19 : Ref sig .tc := ⟨.hbm, 525, rfl⟩
abbrev main_cst_7 : Ref sig .tc := ⟨.hbm, 526, rfl⟩
abbrev main_v20 : Ref sig .tc := ⟨.hbm, 527, rfl⟩
abbrev main_cst_8 : Ref sig .tc := ⟨.hbm, 528, rfl⟩
abbrev main_v21 : Ref sig .tc := ⟨.hbm, 529, rfl⟩
abbrev main_v22 : Ref sig .tc := ⟨.hbm, 530, rfl⟩
abbrev main_v23 : Ref sig .tc := ⟨.hbm, 531, rfl⟩
abbrev main_v24 : Ref sig .tc := ⟨.hbm, 532, rfl⟩
abbrev main_v25 : Ref sig .tc := ⟨.hbm, 533, rfl⟩
abbrev main_v26 : Ref sig .tc := ⟨.hbm, 534, rfl⟩
abbrev main_cst_9 : Ref sig .tc := ⟨.hbm, 535, rfl⟩
abbrev main_v27 : Ref sig .tc := ⟨.hbm, 536, rfl⟩
abbrev main_v28 : Ref sig .tc := ⟨.hbm, 537, rfl⟩
abbrev main_v29 : Ref sig .tc := ⟨.hbm, 538, rfl⟩
abbrev main_v30 : Ref sig .tc := ⟨.hbm, 539, rfl⟩
abbrev main_call2_v0 : Ref sig .tc := ⟨.hbm, 540, rfl⟩
abbrev main_call2_cst : Ref sig .tc := ⟨.hbm, 541, rfl⟩
abbrev main_call2_c : Ref sig .tc := ⟨.hbm, 542, rfl⟩
abbrev main_call2_v1_0 : Ref sig .tc := ⟨.hbm, 543, rfl⟩
abbrev main_v31 : Ref sig .tc := ⟨.hbm, 544, rfl⟩
abbrev main_call3_v0 : Ref sig .tc := ⟨.hbm, 545, rfl⟩
abbrev main_call3_v1 : Ref sig .tc := ⟨.hbm, 546, rfl⟩
abbrev main_call3_v2 : Ref sig .tc := ⟨.hbm, 547, rfl⟩
abbrev main_call3_v3 : Ref sig .tc := ⟨.hbm, 548, rfl⟩
abbrev main_call3_v4 : Ref sig .tc := ⟨.hbm, 549, rfl⟩
abbrev main_v32 : Ref sig .tc := ⟨.hbm, 550, rfl⟩
abbrev main_v33 : Ref sig .tc := ⟨.hbm, 551, rfl⟩
abbrev main_v34 : Ref sig .tc := ⟨.hbm, 552, rfl⟩

abbrev nD : Nat := 1
abbrev τ : Topo := Topo.v7x

variable {F : FTy → Type} [FloatOps F]
-- ==== Proof.Line.lean ====
/- Straight lines of host operations in which every buffer is written once, before it is read: what such a line leaves
   in the buffers satisfies every operation's own equation (`settled`). A long line is then read equation by equation,
   in any grouping, with no substitution of one operation's text into the next. -/
module

public import Idealize.ShloMosaic.Lib.StableHlo.RunHlo

@[expose] public section

noncomputable section

namespace Cert.Proof.Line

open Idealize.ShloMosaic Idealize.ShloMosaic.StableHlo Idealize.SL.Sem

section Sequences

variable {nD : Nat} {τ : Topo} {sig : RefSig} {Val : EltTy → Type} {Λ : Labels}

/-- Two straight lines run one after the other are the straight line of both lists. -/
theorem isSeq_bind {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at *
  rw [hp, hk, seq_append]

end Sequences

variable {τ : Topo} {sig : RefSig} {Val : EltTy → Type}

/-- A buffer's place in its table: the order in which a printed line writes its results. -/
def place (b : DevRef τ sig) : ℕ := b.idx.val

/-- `Ordered n ops m`: the operations write buffers at rising places from `n` on, below `m`, each reading only buffers at
    earlier places than the one it writes, and each determined by what it reads. -/
inductive Ordered : ℕ → List (HloOp τ sig Val) → ℕ → Prop
  | nil {n m : ℕ} (h : n ≤ m) : Ordered n [] m
  | cons {n k m : ℕ} {op : HloOp τ sig Val} {ops : List (HloOp τ sig Val)}
      (idem : ∀ V, op.result (op.result V) = op.result V) (hw : ∀ b ∈ op.writes, n ≤ place b)
      (hb : ∀ b ∈ op.bufs, place b < k) (hnk : n ≤ k) (hs : op.bufs ⊆ tcRefs τ sig) (hf : op.fresh = ∅)
      (h : Ordered k ops m) : Ordered n (op :: ops) m

namespace Ordered

variable {n k m : ℕ} {ops l₁ l₂ : List (HloOp τ sig Val)}

/-- A line may start later than it has to. -/
theorem mono (h : Ordered k ops m) (hnk : n ≤ k) : Ordered n ops m := by
  cases h with
  | nil h => exact .nil (hnk.trans h)
  | cons i w b hn s f h => exact .cons i (fun x hx => hnk.trans (w x hx)) b (hnk.trans hn) s f h

/-- One ordered line after another is ordered. -/
theorem append (h₁ : Ordered n l₁ k) (h₂ : Ordered k l₂ m) : Ordered n (l₁ ++ l₂) m := by
  induction h₁ with
  | nil h => exact h₂.mono h
  | cons i w b hn s f _ ih => exact .cons i w b hn s f (ih h₂)

/-- Every operation touches buffers of the device only. -/
theorem forall_bufs (h : Ordered n ops m) : ops.Forall fun op => op.bufs ⊆ tcRefs τ sig := by
  induction h with
  | nil => trivial
  | cons _ _ _ _ s _ _ ih => exact List.forall_cons .. |>.2 ⟨s, ih⟩

/-- Every operation determines what it writes. -/
theorem fresh_eq (h : Ordered n ops m) : ∀ op ∈ ops, op.fresh = ∅ := by
  induction h with
  | nil => simp
  | cons _ _ _ _ _ f _ ih => exact List.forall_mem_cons.2 ⟨f, ih⟩

/-- A buffer at an earlier place than the line's first keeps its contents. -/
theorem after_early (h : Ordered n ops m) (V : Valuation τ sig Val) {b : DevRef τ sig} (hb : place b < n) :
    after ops V b = V b := by
  induction h generalizing V with
  | nil => rfl
  | cons _ w _ hn _ _ _ ih =>
    rw [after_cons, ih _ (hb.trans_le hn), HloOp.result_of_not_mem _ _ fun hm => absurd (w _ hm) (not_le.2 hb)]

/-- The contents an ordered line leaves are a fixed point of each of its operations. -/
theorem settled (h : Ordered n ops m) (V : Valuation τ sig Val) :
    ∀ op ∈ ops, op.result (after ops V) = after ops V := by
  induction h generalizing V with
  | nil => simp
  | @cons n k m op ops i w b hn _ _ h ih =>
    refine List.forall_mem_cons.2 ⟨?_, fun o ho => ih (op.result V) o ho⟩
    have keep : ∀ x ∈ op.bufs, after (op :: ops) V x = op.result V x := fun x hx => h.after_early _ (b x hx)
    funext x
    by_cases hx : x ∈ op.writes
    · have hx' := op.writes_sub hx
      rw [op.result_congr keep x hx', i, keep x hx']
    · rw [op.result_of_not_mem _ hx]

variable {a b c e x y : Ref sig .tc}

theorem ne_of_place {x y : Ref sig .tc} (h : place (Proc.devRef (τ := τ) .tc x) < place (Proc.devRef (τ := τ) .tc y)) :
    x ≠ y := fun he => by subst he; exact lt_irrefl _ h

/-- The next operation of an ordered line is a constant. -/
theorem nullary {v : y.ty.Contents Val} {hy} (hn : n ≤ place (Proc.devRef (τ := τ) .tc y))
    (h : Ordered (place (Proc.devRef (τ := τ) .tc y) + 1) ops m) :
    Ordered n (StableHlo.nullary (τ := τ) y v hy :: ops) m := by
  refine .cons (fun V => ?_) (by simpa using hn) (by rw [nullary_bufs]; simp) (hn.trans (Nat.le_succ _))
    (nullary_bufs_sub ..) rfl h
  funext d
  by_cases hd : d = Proc.devRef .tc y
  · subst hd; rw [nullary_result, nullary_result]
  · rw [HloOp.result_of_not_mem _ _ (by simpa using hd)]

/-- The next operation of an ordered line reads one buffer. -/
theorem unary {f : x.ty.Contents Val → y.ty.Contents Val} {hx hy}
    (hn : n ≤ place (Proc.devRef (τ := τ) .tc y)) (h₁ : place (Proc.devRef (τ := τ) .tc x) < place (Proc.devRef (τ := τ) .tc y))
    (h : Ordered (place (Proc.devRef (τ := τ) .tc y) + 1) ops m) :
    Ordered n (StableHlo.unary (τ := τ) x y f hx hy :: ops) m := by
  refine .cons (fun V => ?_) (by simpa using hn) (by rw [unary_bufs]; simp; omega) (hn.trans (Nat.le_succ _))
    (unary_bufs_sub ..) rfl h
  funext d
  by_cases hd : d = Proc.devRef .tc y
  · subst hd; rw [unary_result, unary_result, unary_result_ne (h := ne_of_place h₁)]
  · rw [HloOp.result_of_not_mem _ _ (by simpa using hd)]

/-- The next operation of an ordered line reads two buffers. -/
theorem binary {f : a.ty.Contents Val → b.ty.Contents Val → y.ty.Contents Val} {ha hb hy}
    (hn : n ≤ place (Proc.devRef (τ := τ) .tc y)) (h₁ : place (Proc.devRef (τ := τ) .tc a) < place (Proc.devRef (τ := τ) .tc y))
    (h₂ : place (Proc.devRef (τ := τ) .tc b) < place (Proc.devRef (τ := τ) .tc y))
    (h : Ordered (place (Proc.devRef (τ := τ) .tc y) + 1) ops m) :
    Ordered n (StableHlo.binary (τ := τ) a b y f ha hb hy :: ops) m := by
  refine .cons (fun V => ?_) (by simpa using hn) (by rw [binary_bufs]; simp; omega) (hn.trans (Nat.le_succ _))
    (binary_bufs_sub ..) rfl h
  funext d
  by_cases hd : d = Proc.devRef .tc y
  · subst hd
    rw [binary_result, binary_result, binary_result_ne (h := ne_of_place h₁),
      binary_result_ne (h := ne_of_place h₂)]
  · rw [HloOp.result_of_not_mem _ _ (by simpa using hd)]

/-- The next operation of an ordered line reads four buffers. -/
theorem quaternary
    {f : a.ty.Contents Val → b.ty.Contents Val → c.ty.Contents Val → e.ty.Contents Val → y.ty.Contents Val}
    {ha hb hc he hy}
    (hn : n ≤ place (Proc.devRef (τ := τ) .tc y)) (h₁ : place (Proc.devRef (τ := τ) .tc a) < place (Proc.devRef (τ := τ) .tc y))
    (h₂ : place (Proc.devRef (τ := τ) .tc b) < place (Proc.devRef (τ := τ) .tc y))
    (h₃ : place (Proc.devRef (τ := τ) .tc c) < place (Proc.devRef (τ := τ) .tc y))
    (h₄ : place (Proc.devRef (τ := τ) .tc e) < place (Proc.devRef (τ := τ) .tc y))
    (h : Ordered (place (Proc.devRef (τ := τ) .tc y) + 1) ops m) :
    Ordered n (StableHlo.quaternary (τ := τ) a b c e y f ha hb hc he hy :: ops) m := by
  refine .cons (fun V => ?_) (by simpa using hn) (by rw [quaternary_bufs]; simp; omega) (hn.trans (Nat.le_succ _))
    (quaternary_bufs_sub ..) rfl h
  funext d
  by_cases hd : d = Proc.devRef .tc y
  · subst hd
    rw [quaternary_result, quaternary_result, quaternary_result_ne (h := ne_of_place h₁),
      quaternary_result_ne (h := ne_of_place h₂), quaternary_result_ne (h := ne_of_place h₃),
      quaternary_result_ne (h := ne_of_place h₄)]
  · rw [HloOp.result_of_not_mem _ _ (by simpa using hd)]

/-- The next operation of an ordered line is a change of shape. -/
theorem reshape {he : x.ty.elt = y.ty.elt} {hs : x.ty.shape.ShapeCasts y.ty.shape} {hx hy}
    (hn : n ≤ place (Proc.devRef (τ := τ) .tc y)) (h₁ : place (Proc.devRef (τ := τ) .tc x) < place (Proc.devRef (τ := τ) .tc y))
    (h : Ordered (place (Proc.devRef (τ := τ) .tc y) + 1) ops m) :
    Ordered n (StableHlo.reshape (τ := τ) (Val := Val) x y he hs hx hy :: ops) m := by
  refine .cons (fun V => ?_) (by simpa using hn) (by rw [reshape_bufs]; simp; omega) (hn.trans (Nat.le_succ _))
    (reshape_bufs_sub ..) rfl h
  funext d
  by_cases hd : d = Proc.devRef .tc y
  · subst hd; rw [reshape_result, reshape_result, reshape_result_ne (h := ne_of_place h₁)]
  · rw [HloOp.result_of_not_mem _ _ (by simpa using hd)]

end Ordered

/-! ## Reading settled contents at a typed reference -/

/-- What the buffers hold at a typed reference. -/
def rd (μ : Valuation τ sig Val) {T : BufTy} (x : TRef sig T) : T.Contents Val := x.ofBuf (μ (Proc.devRef .tc x.ref))

variable {Tx Ta Tb Tc Te Ty : BufTy} {μ : Valuation τ sig Val} {ops : List (HloOp τ sig Val)}
  {x : TRef sig Tx} {a : TRef sig Ta} {b : TRef sig Tb} {c : TRef sig Tc} {e : TRef sig Te} {y : TRef sig Ty}

/-- Settled contents satisfy every operation's equation. -/
def Settled (μ : Valuation τ sig Val) (ops : List (HloOp τ sig Val)) : Prop := ∀ op ∈ ops, op.result μ = μ

theorem Settled.tail {op : HloOp τ sig Val} (h : Settled μ (op :: ops)) : Settled μ ops := fun o ho => h o (.tail _ ho)

theorem Settled.append {l₁ l₂ : List (HloOp τ sig Val)} (h : Settled μ (l₁ ++ l₂)) : Settled μ l₁ ∧ Settled μ l₂ :=
  List.forall_mem_append.1 h

/-- A constant's equation. -/
theorem Settled.nullary {v : Ty.Contents Val} (h : Settled μ (TRef.nullary (τ := τ) y v :: ops)) :
    rd μ y = v ∧ Settled μ ops := by
  refine ⟨?_, h.tail⟩
  unfold rd
  rw [← h _ (.head _), nullary_result, TRef.ofBuf_toBuf]

/-- The equation of an operation on one buffer. -/
theorem Settled.unary {f : Tx.Contents Val → Ty.Contents Val} (h : Settled μ (TRef.unary (τ := τ) x y f :: ops)) :
    rd μ y = f (rd μ x) ∧ Settled μ ops := by
  refine ⟨?_, h.tail⟩
  show y.ofBuf _ = _
  rw [← h _ (.head _), unary_result, TRef.ofBuf_toBuf, h _ (.head _)]; rfl

/-- The equation of an operation on two buffers. -/
theorem Settled.binary {f : Ta.Contents Val → Tb.Contents Val → Ty.Contents Val}
    (h : Settled μ (TRef.binary (τ := τ) a b y f :: ops)) : rd μ y = f (rd μ a) (rd μ b) ∧ Settled μ ops := by
  refine ⟨?_, h.tail⟩
  show y.ofBuf _ = _
  rw [← h _ (.head _), binary_result, TRef.ofBuf_toBuf, h _ (.head _)]; rfl

/-- The equation of an operation on four buffers. -/
theorem Settled.quaternary {f : Ta.Contents Val → Tb.Contents Val → Tc.Contents Val → Te.Contents Val → Ty.Contents Val}
    (h : Settled μ (TRef.quaternary (τ := τ) a b c e y f :: ops)) :
    rd μ y = f (rd μ a) (rd μ b) (rd μ c) (rd μ e) ∧ Settled μ ops := by
  refine ⟨?_, h.tail⟩
  show y.ofBuf _ = _
  rw [← h _ (.head _), quaternary_result, TRef.ofBuf_toBuf, h _ (.head _)]; rfl

/-- The equation of a change of shape. -/
theorem Settled.reshape {he : Tx.elt = Ty.elt} {hs : Tx.shape.ShapeCasts Ty.shape}
    (h : Settled μ (TRef.reshape (τ := τ) (Val := Val) x y he hs :: ops)) :
    (rd μ y = fun i => he ▸ shapeCast Ty.shape (rd μ x) hs i) ∧ Settled μ ops := by
  refine ⟨?_, h.tail⟩
  obtain ⟨x, rfl, hx, hx'⟩ := x
  obtain ⟨y, rfl, hy, hy'⟩ := y
  have e := congrFun (h _ (.head _)) (Proc.devRef .tc y)
  rw [reshape_result] at e
  exact e.symm

/-! ## The same equations at plain references -/

section Plain

variable {x y a b : Ref sig .tc} {hx hy ha hb}

/-- A constant's equation. -/
theorem Settled.nullary₀ {v : y.ty.Contents Val} (h : Settled μ (StableHlo.nullary (τ := τ) y v hy :: ops)) :
    μ (Proc.devRef .tc y) = v ∧ Settled μ ops := by
  refine ⟨?_, h.tail⟩
  rw [← h _ (.head _), nullary_result]

/-- The equation of an operation on one buffer. -/
theorem Settled.unary₀ {f : x.ty.Contents Val → y.ty.Contents Val}
    (h : Settled μ (StableHlo.unary (τ := τ) x y f hx hy :: ops)) :
    μ (Proc.devRef .tc y) = f (μ (Proc.devRef .tc x)) ∧ Settled μ ops := by
  refine ⟨?_, h.tail⟩
  rw [← h _ (.head _), unary_result, h _ (.head _)]

/-- The equation of an operation on two buffers. -/
theorem Settled.binary₀ {f : a.ty.Contents Val → b.ty.Contents Val → y.ty.Contents Val}
    (h : Settled μ (StableHlo.binary (τ := τ) a b y f ha hb hy :: ops)) :
    μ (Proc.devRef .tc y) = f (μ (Proc.devRef .tc a)) (μ (Proc.devRef .tc b)) ∧ Settled μ ops := by
  refine ⟨?_, h.tail⟩
  rw [← h _ (.head _), binary_result, h _ (.head _)]

end Plain

end Cert.Proof.Line

end
-- ==== Proof.RefLines.lean ====
/- The reference's main, and each function it calls, as a straight line of host operations. -/
module

public import Idealize.ShloMosaic.PureOps.Ideal
public import proofs.«01_k».proof.ReferenceIdeal
public import proofs.«01_k».proof.Proof.Gen.ReferenceIdeal
public import proofs.«01_k».proof.Proof.Line

@[expose] public section

set_option maxRecDepth 16384

noncomputable section

namespace Cert.Proof.RefLines

open Idealize.ShloMosaic Idealize.ShloMosaic.StableHlo Idealize.SL.Sem Cert.ReferenceIdeal Cert.Proof.Line

/-- Straight lines of the reference's operations that a program is. -/
abbrev LineOf (p : Prog (TpuEff nD τ sig (Elt Ideal) (Pipeline.Sig Λ₀ (Fin 0) fun p => (pcfgs (F := Ideal) p).Adm) .tc) PUnit) :=
  {ops : List (HloOp τ sig (Elt Ideal)) // IsSeq p ops}

section Key

variable (a₀ a₁ : TRef sig ⟨S_, .i32⟩) (a₂ a₃ : TRef sig ⟨S1, .i32⟩) (φ : fn_threefry2x32.Bufs)

def keyPart0 : LineOf (fn_threefry2x32.body_part0 a₀ a₁ a₂ a₃ φ) := by apply Subtype.mk; unfold fn_threefry2x32.body_part0; hlo_seq
def keyPart1 : LineOf (fn_threefry2x32.body_part1 a₀ a₁ a₂ a₃ φ) := by apply Subtype.mk; unfold fn_threefry2x32.body_part1; hlo_seq
def keyPart2 : LineOf (fn_threefry2x32.body_part2 a₀ a₁ a₂ a₃ φ) := by apply Subtype.mk; unfold fn_threefry2x32.body_part2; hlo_seq
def keyPart3 : LineOf (fn_threefry2x32.body_part3 a₀ a₁ a₂ a₃ φ) := by apply Subtype.mk; unfold fn_threefry2x32.body_part3; hlo_seq

/-- The block cipher at one counter. -/
def key : LineOf (fn_threefry2x32.body a₀ a₁ a₂ a₃ φ) :=
  ⟨_, isSeq_bind (keyPart0 a₀ a₁ a₂ a₃ φ).2 (isSeq_bind (keyPart1 a₀ a₁ a₂ a₃ φ).2
    (isSeq_bind (keyPart2 a₀ a₁ a₂ a₃ φ).2 (keyPart3 a₀ a₁ a₂ a₃ φ).2))⟩

end Key

section Bits

variable (a₀ a₁ : TRef sig ⟨S_, .i32⟩) (a₂ a₃ : TRef sig ⟨S128x100000, .i32⟩) (φ : fn_threefry2x32_0.Bufs)

def bitsPart0 : LineOf (fn_threefry2x32_0.body_part0 a₀ a₁ a₂ a₃ φ) := by apply Subtype.mk; unfold fn_threefry2x32_0.body_part0; hlo_seq
def bitsPart1 : LineOf (fn_threefry2x32_0.body_part1 a₀ a₁ a₂ a₃ φ) := by apply Subtype.mk; unfold fn_threefry2x32_0.body_part1; hlo_seq
def bitsPart2 : LineOf (fn_threefry2x32_0.body_part2 a₀ a₁ a₂ a₃ φ) := by apply Subtype.mk; unfold fn_threefry2x32_0.body_part2; hlo_seq
def bitsPart3 : LineOf (fn_threefry2x32_0.body_part3 a₀ a₁ a₂ a₃ φ) := by apply Subtype.mk; unfold fn_threefry2x32_0.body_part3; hlo_seq

/-- The block cipher at every element's counter. -/
def bits : LineOf (fn_threefry2x32_0.body a₀ a₁ a₂ a₃ φ) :=
  ⟨_, isSeq_bind (bitsPart0 a₀ a₁ a₂ a₃ φ).2 (isSeq_bind (bitsPart1 a₀ a₁ a₂ a₃ φ).2
    (isSeq_bind (bitsPart2 a₀ a₁ a₂ a₃ φ).2 (bitsPart3 a₀ a₁ a₂ a₃ φ).2))⟩

end Bits

/-- Folding a word into a key. -/
def foldIn (a₀ : TRef sig ⟨S2, .i32⟩) (a₁ : TRef sig ⟨S_, .i32⟩) (φ : fn_threefry_fold_in.Bufs) :
    LineOf (fn_threefry_fold_in.body a₀ a₁ φ) := by
  apply Subtype.mk
  unfold fn_threefry_fold_in.body
  iterate 13 apply IsSeq.cons
  apply isSeq_bind (key _ _ _ _ _).2
  hlo_seq

/-- Uniform samples from a key. -/
def uniform (a₀ : TRef sig ⟨S2, .i32⟩) (a₁ a₂ : TRef sig ⟨S_, .f32⟩) (φ : fn_uniform.Bufs) :
    LineOf (fn_uniform.body a₀ a₁ a₂ φ) := by
  apply Subtype.mk
  unfold fn_uniform.body
  iterate 22 apply IsSeq.cons
  apply isSeq_bind (bits _ _ _ _ _).2
  hlo_seq

/-- The place of the first largest element. -/
def argmax (a₀ : TRef sig ⟨S128x100000, .f32⟩) (φ : fn_argmax.Bufs) : LineOf (fn_argmax.body a₀ φ) :=
  by apply Subtype.mk; unfold fn_argmax.body; hlo_seq

/-- One-hot rows. -/
def oneHot (a₀ : TRef sig ⟨S128, .i32⟩) (φ : fn_one_hot.Bufs) : LineOf (fn_one_hot.body a₀ φ) :=
  by apply Subtype.mk; unfold fn_one_hot.body; hlo_seq

/-- The whole reference. -/
def whole (d : Dev nD) : LineOf (main (F := Ideal) d) := by
  apply Subtype.mk
  unfold main
  iterate 11 apply IsSeq.cons
  apply isSeq_bind (foldIn _ _ _).2
  iterate 2 apply IsSeq.cons
  apply isSeq_bind (uniform _ _ _ _).2
  iterate 28 apply IsSeq.cons
  apply isSeq_bind (argmax _ _).2
  apply isSeq_bind (oneHot _ _).2
  hlo_seq

/-- The reference writes each buffer once, in the buffers' order, after everything it reads. -/
theorem ordered (d : Dev nD) : Ordered 1 (whole d).1 553 := by
  dsimp only [whole, foldIn, uniform, argmax, oneHot, key, bits, keyPart0, keyPart1, keyPart2, keyPart3, bitsPart0,
    bitsPart1, bitsPart2, bitsPart3, List.cons_append, List.nil_append]
  repeat first
    | with_reducible exact Ordered.nil (by decide)
    | with_reducible refine Ordered.binary (by decide) (by decide) (by decide) ?_
    | with_reducible refine Ordered.unary (by decide) (by decide) ?_
    | with_reducible refine Ordered.nullary (by decide) ?_
    | with_reducible refine Ordered.reshape (by decide) (by decide) ?_
    | with_reducible refine Ordered.quaternary (by decide) (by decide) (by decide) (by decide) (by decide) ?_

end Cert.Proof.RefLines

end
-- ==== Proof.RefRun.lean ====
/- The reference's run: it ends, leaves its argument as it was, and its buffers satisfy every operation's equation. -/
module

public import Idealize.ShloMosaic.Lib.Quiescent
public import proofs.«01_k».proof.Defs
public import proofs.«01_k».proof.Proof.RefLines

@[expose] public section

set_option maxRecDepth 16384

noncomputable section

namespace Cert.Proof.RefRun

open Idealize.ShloMosaic Idealize.ShloMosaic.StableHlo Idealize.SL.Sem Cert.ReferenceIdeal Cert.Proof.Line Cert.Proof.RefLines

variable (m : (ℓ : Loc nD τ sig) → Buf (Elt Ideal) ℓ) (ρ : Dev nD → PrngReg)

/-- What the reference's buffers hold on device `d` at the end. -/
def final (d : Dev nD) : Valuation τ sig (Elt Ideal) := after (whole d).1 (launchContents m d)

/-- The reference runs to `final`. -/
theorem run : θ_run (defs (F := Ideal)) (onTc (τ := τ) (main (F := Ideal))) ⟨m, fun _ => 0, ρ⟩ fun r =>
    ∀ (d : Dev nD) (b : Ref sig .tc), r.2.mem ((d.tc : Thread nD τ).loc b) = final m d (Proc.devRef .tc b) :=
  run_seq (by decide) (by decide) defs main (fun d => (whole d).1) (fun d => (whole d).2)
    (fun d => (ordered d).forall_bufs) m ρ (fun d => (ordered d).fresh_eq)

/-- The argument is never written. -/
theorem final_arg (d : Dev nD) : final m d (Proc.devRef .tc main_arg0) = m ((d.tc : Thread nD τ).loc main_arg0) :=
  (ordered d).after_early _ (by decide)

/-- The final contents satisfy every operation's equation. -/
theorem final_settled (d : Dev nD) : Settled (final m d) (whole d).1 := (ordered d).settled _

/-- The reference ends with its argument unchanged and every counter at zero. -/
theorem frame : Cert.quiescent_ReferenceIdeal := fun m ρ _ =>
  (θ_run defs _ _).mono (fun r h => ⟨fun c => (h c main_arg0).trans (final_arg m c), sem_eq_zero_of_no_sems (by decide) r.2⟩)
    (run m ρ)

end Cert.Proof.RefRun

end
-- ==== Proof.Chunk.lean ====
/- The chunk computation of the kernel, written once: the random bits of a vector of words, the noise made of the bits,
   a chunk's perturbed logits, and the merge of two candidates. -/
module

public import proofs.«01_k».proof.Proof.Gen.KernelIdeal.Value

@[expose] public section

noncomputable section

namespace Cert.Proof.Chunk

open Cert.KernelIdeal Cert.KernelIdeal.Gen Idealize.ShloMosaic Idealize.ShloMosaic.TcCoe Idealize.SL.Sem

variable {F : FTy → Type} [FloatOps F]

/-- One round on the second word: rotate it (a multiplication by `a`, a right shift by `b`) and xor the first word in. -/
def turn {s : Shape} (y z : IVec s 32) (a b : BitVec 32) : IVec s 32 :=
  xori (ori (muli z (broadcast s a)) (shrui z (broadcast s b))) y

/-- A round, its results handed on. -/
def next {s : Shape} {α : Type} (a b : BitVec 32) (κ : IVec s 32 → IVec s 32 → α) (y z : IVec s 32) : α :=
  have y := addi y z
  κ y (turn y z a b)

/-- The first round, whose first word is already summed. -/
def first {s : Shape} {α : Type} (a b : BitVec 32) (κ : IVec s 32 → IVec s 32 → α) (y z : IVec s 32) : α :=
  κ y (turn y z a b)

/-- Two words added to the pair, the results handed on. -/
def inject {s : Shape} {α : Type} (k k' : BitVec 32) (κ : IVec s 32 → IVec s 32 → α) (y z : IVec s 32) : α :=
  κ (addi y (broadcast s k)) (addi z (broadcast s k'))

/-- Four rounds of the first kind of rotations, the first given, then an injection. -/
def odd {s : Shape} {α : Type} (k k' : BitVec 32)
    (r : BitVec 32 → BitVec 32 → (IVec s 32 → IVec s 32 → α) → IVec s 32 → IVec s 32 → α)
    (κ : IVec s 32 → IVec s 32 → α) : IVec s 32 → IVec s 32 → α :=
  r 8192#32 19#32 (next 32768#32 17#32 (next 67108864#32 6#32 (next 64#32 26#32 (inject k k' κ))))

/-- Four rounds of the second kind of rotations, then an injection. -/
def even {s : Shape} {α : Type} (k k' : BitVec 32) (κ : IVec s 32 → IVec s 32 → α) : IVec s 32 → IVec s 32 → α :=
  next 131072#32 15#32 (next 536870912#32 3#32 (next 65536#32 16#32 (next 16777216#32 8#32 (inject k k' κ))))

/-- The bits the kernel makes of a vector of words. -/
def bits {s : Shape} (x : IVec s 32) : IVec s 32 :=
  odd 3453687069#32 3780455753#32 first
    (even 3780455752#32 928981905#32
      (odd 928981903#32 3453687072#32 next
        (even 3453687069#32 3780455756#32
          (odd 3780455752#32 928981908#32 next xori))))
    (addi x (broadcast s 928981903#32)) x

/-- The noise the kernel makes of a vector of bits, at the given small constant. -/
def noise {s : Shape} (e : F .f32) (w : IVec s 32) : FVec F s .f32 :=
  have u : FVec F s .f32 := subf (bitcastToFloat .f32 (ori (shrui w (broadcast s 9#32)) (broadcast s 1065353216#32)))
    (broadcast s (Scalar.ofBits .f32 0x3F800000#32))
  have l : FVec F s .f32 := subf (broadcast s (Scalar.ofBits .f32 0x00000000#32)) (log (addf u (broadcast s e)))
  subf (broadcast s (Scalar.ofBits .f32 0x00000000#32)) (log (addf l (broadcast s e)))

/-- A chunk's perturbed logits: the logits loaded, the noise of the words added. -/
def perturbed {s : Shape} (e : F .f32) (x : IVec s 32) (logits : FVec F s .f32) : FVec F s .f32 :=
  addf logits (noise e (bits x))

/-- The larger of two candidates' values: the second where it is strictly larger. -/
def pick {s : Shape} (v v' : FVec F s .f32) : FVec F s .f32 := select (cmpf .ogt v' v) v' v

/-- The chunk number of the larger of two candidates. -/
def pickAt {s : Shape} (v v' : FVec F s .f32) (j j' : IVec s 32) : IVec s 32 := select (cmpf .ogt v' v) j' j

/-- Two candidates merged. -/
def merge {s : Shape} (p q : FVec F s .f32 × IVec s 32) : FVec F s .f32 × IVec s 32 :=
  (pick p.1 q.1, pickAt p.1 q.1 p.2 q.2)

/-- Twenty-four candidates merged by the kernel's tree. -/
def merge24 {s : Shape} (p : Fin 24 → FVec F s .f32 × IVec s 32) : FVec F s .f32 × IVec s 32 :=
  merge
    (merge
      (merge (merge (merge (p 0) (p 1)) (merge (p 2) (p 3))) (merge (merge (p 4) (p 5)) (merge (p 6) (p 7))))
      (merge (merge (merge (p 8) (p 9)) (merge (p 10) (p 11))) (merge (merge (p 12) (p 13)) (merge (p 14) (p 15)))))
    (merge (merge (merge (p 16) (p 17)) (merge (p 18) (p 19))) (merge (merge (p 20) (p 21)) (merge (p 22) (p 23))))

end Cert.Proof.Chunk

end
-- ==== Proof.Cipher.lean ====
/- The block cipher behind the random bits, on words; and that the kernel's bits are its two words xored, at the key the
   kernel holds as constants. -/
module

public import proofs.«01_k».proof.Proof.Chunk

@[expose] public section

noncomputable section

namespace Cert.Proof.Cipher

open Idealize.ShloMosaic

/-- A word rotated left. -/
def rot (z : BitVec 32) (r : ℕ) : BitVec 32 := z <<< r ||| z >>> (32 - r)

/-- One round on a pair of words. -/
def round (r : ℕ) (p : BitVec 32 × BitVec 32) : BitVec 32 × BitVec 32 := (p.1 + p.2, (p.1 + p.2) ^^^ rot p.2 r)

/-- Four rounds, then two key words and a counter added. -/
def group (a b c d : ℕ) (k k' n : BitVec 32) (p : BitVec 32 × BitVec 32) : BitVec 32 × BitVec 32 :=
  ((round d (round c (round b (round a p)))).1 + k, (round d (round c (round b (round a p)))).2 + k' + n)

/-- The third key word. -/
def third (k₀ k₁ : BitVec 32) : BitVec 32 := k₀ ^^^ k₁ ^^^ 466688986#32

/-- The cipher of the counter `(h, l)` under the key `(k₀, k₁)`. -/
def cipher (k₀ k₁ h l : BitVec 32) : BitVec 32 × BitVec 32 :=
  group 13 15 26 6 (third k₀ k₁) k₀ 5#32
    (group 17 29 16 24 k₁ (third k₀ k₁) 4#32
      (group 13 15 26 6 k₀ k₁ 3#32
        (group 17 29 16 24 (third k₀ k₁) k₀ 2#32
          (group 13 15 26 6 k₁ (third k₀ k₁) 1#32 (h + k₀, l + k₁)))))

/-- The random bits at counter `l`, at the key the kernel holds. -/
def bitsAt (l : BitVec 32) : BitVec 32 :=
  (cipher 928981903#32 3453687069#32 0#32 l).1 ^^^ (cipher 928981903#32 3453687069#32 0#32 l).2

/-! ## The kernel's form -/

/-- The kernel's update of the second word. -/
def turn (y z a b : BitVec 32) : BitVec 32 := IntOp.xori (IntOp.ori (IntOp.muli z a) (IntOp.shrui .vector z b)) y

/-- The kernel's round. -/
def kround (a b : BitVec 32) (p : BitVec 32 × BitVec 32) : BitVec 32 × BitVec 32 :=
  (p.1 + p.2, turn (p.1 + p.2) p.2 a b)

/-- The kernel's first round, whose first word is already summed. -/
def kfirst (a b : BitVec 32) (p : BitVec 32 × BitVec 32) : BitVec 32 × BitVec 32 := (p.1, turn p.1 p.2 a b)

theorem shrui_lit (u : ArithUnit) (z : BitVec 32) (n : ℕ) (h : n < 32) :
    IntOp.shrui u z (BitVec.ofNat 32 n) = z >>> n := by
  have e : (BitVec.ofNat 32 n).toNat = n := by simp; omega
  unfold IntOp.shrui
  rw [if_pos (by omega), BitVec.ushiftRight_eq', e]

theorem shli_lit (u : ArithUnit) (z : BitVec 32) (n : ℕ) (h : n < 32) :
    IntOp.shli u z (BitVec.ofNat 32 n) = z <<< n := by
  have e : (BitVec.ofNat 32 n).toNat = n := by simp; omega
  unfold IntOp.shli
  rw [if_pos (by omega), BitVec.shiftLeft_eq', e]

/-- A multiplication by a power of two and a right shift rotate. -/
theorem turn_eq (y z : BitVec 32) (r : ℕ) (h0 : 0 < r) (h : r < 32) :
    turn y z (BitVec.twoPow 32 r) (BitVec.ofNat 32 (32 - r)) = y ^^^ rot z r := by
  unfold turn rot
  rw [shrui_lit _ _ _ (by omega)]
  show (z * BitVec.twoPow 32 r ||| z >>> (32 - r)) ^^^ y = _
  rw [BitVec.mul_twoPow_eq_shiftLeft, BitVec.xor_comm]

theorem kround_eq (r : ℕ) (h0 : 0 < r) (h : r < 32) (p : BitVec 32 × BitVec 32) :
    kround (BitVec.twoPow 32 r) (BitVec.ofNat 32 (32 - r)) p = round r p := by
  unfold kround round; rw [turn_eq _ _ _ h0 h]

/-- The kernel's four rounds and additions; the counter is folded into the second key word. -/
def kgroup (f : BitVec 32 → BitVec 32 → BitVec 32 × BitVec 32 → BitVec 32 × BitVec 32)
    (a a' b b' c c' d d' k k' : BitVec 32) (p : BitVec 32 × BitVec 32) : BitVec 32 × BitVec 32 :=
  ((kround d d' (kround c c' (kround b b' (f a a' p)))).1 + k, (kround d d' (kround c c' (kround b b' (f a a' p)))).2 + k')

/-- The kernel's bits of a word. -/
def kbits (x : BitVec 32) : BitVec 32 × BitVec 32 :=
  kgroup kround 8192#32 19#32 32768#32 17#32 67108864#32 6#32 64#32 26#32 3780455752#32 928981908#32
    (kgroup kround 131072#32 15#32 536870912#32 3#32 65536#32 16#32 16777216#32 8#32 3453687069#32 3780455756#32
      (kgroup kround 8192#32 19#32 32768#32 17#32 67108864#32 6#32 64#32 26#32 928981903#32 3453687072#32
        (kgroup kround 131072#32 15#32 536870912#32 3#32 65536#32 16#32 16777216#32 8#32 3780455752#32 928981905#32
          (kgroup kfirst 8192#32 19#32 32768#32 17#32 67108864#32 6#32 64#32 26#32 3453687069#32 3780455753#32
            (x + 928981903#32, x)))))

theorem group_odd (k k' n : BitVec 32) (p : BitVec 32 × BitVec 32) :
    kgroup kround 8192#32 19#32 32768#32 17#32 67108864#32 6#32 64#32 26#32 k (k' + n) p = group 13 15 26 6 k k' n p := by
  unfold kgroup group
  rw [show (8192#32) = BitVec.twoPow 32 13 by decide, show (19#32) = BitVec.ofNat 32 (32 - 13) by decide,
    show (32768#32) = BitVec.twoPow 32 15 by decide, show (17#32) = BitVec.ofNat 32 (32 - 15) by decide,
    show (67108864#32) = BitVec.twoPow 32 26 by decide, show (6#32) = BitVec.ofNat 32 (32 - 26) by decide,
    show (64#32) = BitVec.twoPow 32 6 by decide, show (26#32) = BitVec.ofNat 32 (32 - 6) by decide,
    kround_eq 13 (by decide) (by decide), kround_eq 15 (by decide) (by decide), kround_eq 26 (by decide) (by decide),
    kround_eq 6 (by decide) (by decide), ← BitVec.add_assoc]

theorem group_even (k k' n : BitVec 32) (p : BitVec 32 × BitVec 32) :
    kgroup kround 131072#32 15#32 536870912#32 3#32 65536#32 16#32 16777216#32 8#32 k (k' + n) p
      = group 17 29 16 24 k k' n p := by
  unfold kgroup group
  rw [show (131072#32) = BitVec.twoPow 32 17 by decide, show (15#32) = BitVec.ofNat 32 (32 - 17) by decide,
    show (536870912#32) = BitVec.twoPow 32 29 by decide, show (3#32) = BitVec.ofNat 32 (32 - 29) by decide,
    show (65536#32) = BitVec.twoPow 32 16 by decide, show (16#32) = BitVec.ofNat 32 (32 - 16) by decide,
    show (16777216#32) = BitVec.twoPow 32 24 by decide, show (8#32) = BitVec.ofNat 32 (32 - 24) by decide,
    kround_eq 17 (by decide) (by decide), kround_eq 29 (by decide) (by decide), kround_eq 16 (by decide) (by decide),
    kround_eq 24 (by decide) (by decide), ← BitVec.add_assoc]

theorem group_first (k k' y z w : BitVec 32) (h : w = y + z) :
    kgroup kfirst 8192#32 19#32 32768#32 17#32 67108864#32 6#32 64#32 26#32 k k' (w, z)
      = kgroup kround 8192#32 19#32 32768#32 17#32 67108864#32 6#32 64#32 26#32 k k' (y, z) := by
  subst h; rfl

/-- The kernel's bits of a counter offset by the second key word are the cipher's two words xored. -/
theorem kbits_eq (x l : BitVec 32) (h : x = l + 3453687069#32) : kbits x = cipher 928981903#32 3453687069#32 0#32 l := by
  subst h
  unfold kbits cipher
  rw [group_first _ _ (0#32 + 928981903#32) _ _ (by rw [BitVec.zero_add, BitVec.add_comm]),
    show third 928981903#32 3453687069#32 = 3780455752#32 by decide,
    show (3780455753#32) = 3780455752#32 + 1#32 by decide, group_odd,
    show (928981905#32) = 928981903#32 + 2#32 by decide, group_even,
    show (3453687072#32) = 3453687069#32 + 3#32 by decide, group_odd,
    show (3780455756#32) = 3780455752#32 + 4#32 by decide, group_even,
    show (928981908#32) = 928981903#32 + 5#32 by decide, group_odd]

/-- A continuation read at an index depends on its arguments there. -/
def AtIdx {s : Shape} (j : s.Idx) (κ : IVec s 32 → IVec s 32 → IVec s 32)
    (K : BitVec 32 × BitVec 32 → BitVec 32) : Prop := ∀ y z, κ y z j = K (y j, z j)

theorem AtIdx.next {s : Shape} {j : s.Idx} {κ : IVec s 32 → IVec s 32 → IVec s 32}
    {K : BitVec 32 × BitVec 32 → BitVec 32} (h : AtIdx j κ K) (a b : BitVec 32) :
    AtIdx j (Chunk.next a b κ) (fun p => K (kround a b p)) := fun _ _ => h _ _

theorem AtIdx.first {s : Shape} {j : s.Idx} {κ : IVec s 32 → IVec s 32 → IVec s 32}
    {K : BitVec 32 × BitVec 32 → BitVec 32} (h : AtIdx j κ K) (a b : BitVec 32) :
    AtIdx j (Chunk.first a b κ) (fun p => K (kfirst a b p)) := fun _ _ => h _ _

theorem AtIdx.inject {s : Shape} {j : s.Idx} {κ : IVec s 32 → IVec s 32 → IVec s 32}
    {K : BitVec 32 × BitVec 32 → BitVec 32} (h : AtIdx j κ K) (k k' : BitVec 32) :
    AtIdx j (Chunk.inject k k' κ) (fun p => K (p.1 + k, p.2 + k')) := fun _ _ => h _ _

/-- The kernel's vector of bits, at an index. -/
theorem bits_apply {s : Shape} (x : IVec s 32) (j : s.Idx) : Chunk.bits x j = (kbits (x j)).1 ^^^ (kbits (x j)).2 := by
  have h0 : AtIdx j xori (fun p => p.1 ^^^ p.2) := fun _ _ => rfl
  have h1 := ((((h0.inject 3780455752#32 928981908#32).next 64#32 26#32).next 67108864#32 6#32).next 32768#32
    17#32).next 8192#32 19#32
  have h2 := ((((h1.inject 3453687069#32 3780455756#32).next 16777216#32 8#32).next 65536#32 16#32).next 536870912#32
    3#32).next 131072#32 15#32
  have h3 := ((((h2.inject 928981903#32 3453687072#32).next 64#32 26#32).next 67108864#32 6#32).next 32768#32
    17#32).next 8192#32 19#32
  have h4 := ((((h3.inject 3780455752#32 928981905#32).next 16777216#32 8#32).next 65536#32 16#32).next 536870912#32
    3#32).next 131072#32 15#32
  have h5 := ((((h4.inject 3453687069#32 3780455753#32).next 64#32 26#32).next 67108864#32 6#32).next 32768#32
    17#32).first 8192#32 19#32
  exact h5 _ _

/-- The kernel's bits at an element whose word is the counter offset by the second key word. -/
theorem bits_at {s : Shape} (x : IVec s 32) (j : s.Idx) (l : BitVec 32) (h : x j = l + 3453687069#32) :
    Chunk.bits x j = bitsAt l := by rw [bits_apply, kbits_eq _ _ h, bitsAt]

end Cert.Proof.Cipher

end
-- ==== Proof.RefCipher.lean ====
/- The reference's block cipher, read off the equations its buffers satisfy: at every index its results are the cipher's
   two words of the counter there. -/
module

public import proofs.«01_k».proof.Proof.RefLines
public import proofs.«01_k».proof.Proof.Cipher

@[expose] public section

set_option maxRecDepth 16384

noncomputable section

namespace Cert.Proof.RefCipher

open Idealize.ShloMosaic Idealize.ShloMosaic.StableHlo Idealize.SL.Sem Cert.ReferenceIdeal Cert.Proof.Line
open Cert.Proof.RefLines Cert.Proof.Cipher

variable {s : Shape} {μ : Valuation τ sig (Elt Ideal)} {ops : List (HloOp τ sig (Elt Ideal))}

/-- What an integer buffer holds, as a vector of words. -/
def word (μ : Valuation τ sig (Elt Ideal)) (x : TRef sig ⟨s, .i32⟩) : IVec s 32 := rd μ x

/-- The two words held at an index. -/
def duo (μ : Valuation τ sig (Elt Ideal)) (j : s.Idx) (y z : TRef sig ⟨s, .i32⟩) : BitVec 32 × BitVec 32 :=
  (word μ y j, word μ z j)

/-- One round's nine operations. -/
theorem round_settled (r : ℕ) (h0 : 0 < r) (hr : r < 32) {y z y' z' b l b' u o : TRef sig ⟨s, .i32⟩}
    {c c' : TRef sig ⟨S_, .i32⟩} {hb hb'} (j : s.Idx)
    (H : Settled μ (TRef.binary (τ := τ) y z y' addi :: TRef.nullary c (constantI S_ 32 (BitVec.ofNat 32 r))
      :: TRef.unary c b (broadcastInDim s ![] hb) :: TRef.binary z b l Host.shli
      :: TRef.nullary c' (constantI S_ 32 (BitVec.ofNat 32 (32 - r))) :: TRef.unary c' b' (broadcastInDim s ![] hb')
      :: TRef.binary z b' u Host.shrui :: TRef.binary l u o ori :: TRef.binary y' o z' xori :: ops)) :
    duo μ j y' z' = Cipher.round r (duo μ j y z) ∧ Settled μ ops := by
  obtain ⟨e1, H⟩ := H.binary
  obtain ⟨e2, H⟩ := H.nullary
  obtain ⟨e3, H⟩ := H.unary
  obtain ⟨e4, H⟩ := H.binary
  obtain ⟨e5, H⟩ := H.nullary
  obtain ⟨e6, H⟩ := H.unary
  obtain ⟨e7, H⟩ := H.binary
  obtain ⟨e8, H⟩ := H.binary
  obtain ⟨e9, H⟩ := H.binary
  refine ⟨?_, H⟩
  unfold duo word
  rw [e9, e8, e7, e6, e5, e4, e3, e2, e1]
  unfold Cipher.round rot
  rw [← shli_lit .host _ r hr, ← shrui_lit .host _ (32 - r) (by omega)]
  rfl

/-- An injection's six operations. -/
theorem inject_settled {k k' c : TRef sig ⟨S_, .i32⟩} {y z b y' b' z₁ b'' z' : TRef sig ⟨s, .i32⟩} {K K' n : BitVec 32}
    {hb hb' hb''} (j : s.Idx) (hk : ∀ i, word μ k i = K) (hk' : ∀ i, word μ k' i = K')
    (H : Settled μ (TRef.unary (τ := τ) k b (broadcastInDim s ![] hb) :: TRef.binary y b y' addi
      :: TRef.unary k' b' (broadcastInDim s ![] hb') :: TRef.binary z b' z₁ addi :: TRef.nullary c (constantI S_ 32 n)
      :: TRef.unary c b'' (broadcastInDim s ![] hb'') :: TRef.binary z₁ b'' z' addi :: ops)) :
    duo μ j y' z' = ((duo μ j y z).1 + K, (duo μ j y z).2 + K' + n) ∧ Settled μ ops := by
  obtain ⟨e1, H⟩ := H.unary
  obtain ⟨e2, H⟩ := H.binary
  obtain ⟨e3, H⟩ := H.unary
  obtain ⟨e4, H⟩ := H.binary
  obtain ⟨e5, H⟩ := H.nullary
  obtain ⟨e6, H⟩ := H.unary
  obtain ⟨e7, H⟩ := H.binary
  refine ⟨?_, H⟩
  unfold duo word
  rw [e7, e6, e5, e4, e3, e2, e1]
  exact Prod.ext (congrArg (rd μ y j + ·) (hk _)) (congrArg (rd μ z j + · + n) (hk' _))

/-- The cipher's opening: the third key word, and the key added to the counter. -/
theorem open_settled {k₀ k₁ x c t : TRef sig ⟨S_, .i32⟩} {h l b y b' z : TRef sig ⟨s, .i32⟩} {K₀ K₁ : BitVec 32} {hb hb'}
    (j : s.Idx) (hk₀ : ∀ i, word μ k₀ i = K₀) (hk₁ : ∀ i, word μ k₁ i = K₁)
    (H : Settled μ (TRef.binary (τ := τ) k₀ k₁ x xori :: TRef.nullary c (constantI S_ 32 466688986#32)
      :: TRef.binary x c t xori :: TRef.unary k₀ b (broadcastInDim s ![] hb) :: TRef.binary h b y addi
      :: TRef.unary k₁ b' (broadcastInDim s ![] hb') :: TRef.binary l b' z addi :: ops)) :
    (∀ i, word μ t i = third K₀ K₁) ∧ duo μ j y z = (word μ h j + K₀, word μ l j + K₁) ∧ Settled μ ops := by
  obtain ⟨e1, H⟩ := H.binary
  obtain ⟨e2, H⟩ := H.nullary
  obtain ⟨e3, H⟩ := H.binary
  obtain ⟨e4, H⟩ := H.unary
  obtain ⟨e5, H⟩ := H.binary
  obtain ⟨e6, H⟩ := H.unary
  obtain ⟨e7, H⟩ := H.binary
  refine ⟨fun i => ?_, ?_, H⟩
  · unfold word; rw [e3, e2, e1]
    show rd μ k₀ i ^^^ rd μ k₁ i ^^^ 466688986#32 = _
    rw [show rd μ k₀ i = K₀ from hk₀ i, show rd μ k₁ i = K₁ from hk₁ i, third]
  · unfold duo word; rw [e7, e6, e5, e4]
    exact Prod.ext (congrArg (rd μ h j + ·) (hk₀ _)) (congrArg (rd μ l j + ·) (hk₁ _))

section Bits

variable {a₀ a₁ : TRef sig ⟨S_, .i32⟩} {a₂ a₃ : TRef sig ⟨S128x100000, .i32⟩} {φ : fn_threefry2x32_0.Bufs}

/-- The cipher over the whole array. -/
theorem bits_settled {K₀ K₁ : BitVec 32} (hk₀ : ∀ i, word μ a₀ i = K₀) (hk₁ : ∀ i, word μ a₁ i = K₁)
    (H : Settled μ (bits a₀ a₁ a₂ a₃ φ).1) (j : S128x100000.Idx) :
    duo μ j φ.v171 φ.v175 = cipher K₀ K₁ (word μ a₂ j) (word μ a₃ j) := by
  dsimp only [bits, bitsPart0, bitsPart1, bitsPart2, bitsPart3, List.cons_append, List.nil_append, List.append_assoc] at H
  obtain ⟨ht, e0, H⟩ := open_settled j hk₀ hk₁ H
  obtain ⟨r1, H⟩ := round_settled 13 (by decide) (by decide) j H
  obtain ⟨r2, H⟩ := round_settled 15 (by decide) (by decide) j H
  obtain ⟨r3, H⟩ := round_settled 26 (by decide) (by decide) j H
  obtain ⟨r4, H⟩ := round_settled 6 (by decide) (by decide) j H
  obtain ⟨i1, H⟩ := inject_settled j hk₁ ht H
  obtain ⟨r5, H⟩ := round_settled 17 (by decide) (by decide) j H
  obtain ⟨r6, H⟩ := round_settled 29 (by decide) (by decide) j H
  obtain ⟨r7, H⟩ := round_settled 16 (by decide) (by decide) j H
  obtain ⟨r8, H⟩ := round_settled 24 (by decide) (by decide) j H
  obtain ⟨i2, H⟩ := inject_settled j ht hk₀ H
  obtain ⟨r9, H⟩ := round_settled 13 (by decide) (by decide) j H
  obtain ⟨r10, H⟩ := round_settled 15 (by decide) (by decide) j H
  obtain ⟨r11, H⟩ := round_settled 26 (by decide) (by decide) j H
  obtain ⟨r12, H⟩ := round_settled 6 (by decide) (by decide) j H
  obtain ⟨i3, H⟩ := inject_settled j hk₀ hk₁ H
  obtain ⟨r13, H⟩ := round_settled 17 (by decide) (by decide) j H
  obtain ⟨r14, H⟩ := round_settled 29 (by decide) (by decide) j H
  obtain ⟨r15, H⟩ := round_settled 16 (by decide) (by decide) j H
  obtain ⟨r16, H⟩ := round_settled 24 (by decide) (by decide) j H
  obtain ⟨i4, H⟩ := inject_settled j hk₁ ht H
  obtain ⟨r17, H⟩ := round_settled 13 (by decide) (by decide) j H
  obtain ⟨r18, H⟩ := round_settled 15 (by decide) (by decide) j H
  obtain ⟨r19, H⟩ := round_settled 26 (by decide) (by decide) j H
  obtain ⟨r20, H⟩ := round_settled 6 (by decide) (by decide) j H
  obtain ⟨i5, H⟩ := inject_settled j ht hk₀ H
  unfold cipher group
  rw [i5, r20, r19, r18, r17, i4, r16, r15, r14, r13, i3, r12, r11, r10, r9, i2, r8, r7, r6, r5, i1, r4, r3, r2, r1, e0]

end Bits

section Key

variable {a₀ a₁ : TRef sig ⟨S_, .i32⟩} {a₂ a₃ : TRef sig ⟨S1, .i32⟩} {φ : fn_threefry2x32.Bufs}

/-- The cipher at one counter. -/
theorem key_settled {K₀ K₁ : BitVec 32} (hk₀ : ∀ i, word μ a₀ i = K₀) (hk₁ : ∀ i, word μ a₁ i = K₁)
    (H : Settled μ (key a₀ a₁ a₂ a₃ φ).1) (j : S1.Idx) :
    duo μ j φ.v171 φ.v175 = cipher K₀ K₁ (word μ a₂ j) (word μ a₃ j) := by
  dsimp only [key, keyPart0, keyPart1, keyPart2, keyPart3, List.cons_append, List.nil_append, List.append_assoc] at H
  obtain ⟨ht, e0, H⟩ := open_settled j hk₀ hk₁ H
  obtain ⟨r1, H⟩ := round_settled 13 (by decide) (by decide) j H
  obtain ⟨r2, H⟩ := round_settled 15 (by decide) (by decide) j H
  obtain ⟨r3, H⟩ := round_settled 26 (by decide) (by decide) j H
  obtain ⟨r4, H⟩ := round_settled 6 (by decide) (by decide) j H
  obtain ⟨i1, H⟩ := inject_settled j hk₁ ht H
  obtain ⟨r5, H⟩ := round_settled 17 (by decide) (by decide) j H
  obtain ⟨r6, H⟩ := round_settled 29 (by decide) (by decide) j H
  obtain ⟨r7, H⟩ := round_settled 16 (by decide) (by decide) j H
  obtain ⟨r8, H⟩ := round_settled 24 (by decide) (by decide) j H
  obtain ⟨i2, H⟩ := inject_settled j ht hk₀ H
  obtain ⟨r9, H⟩ := round_settled 13 (by decide) (by decide) j H
  obtain ⟨r10, H⟩ := round_settled 15 (by decide) (by decide) j H
  obtain ⟨r11, H⟩ := round_settled 26 (by decide) (by decide) j H
  obtain ⟨r12, H⟩ := round_settled 6 (by decide) (by decide) j H
  obtain ⟨i3, H⟩ := inject_settled j hk₀ hk₁ H
  obtain ⟨r13, H⟩ := round_settled 17 (by decide) (by decide) j H
  obtain ⟨r14, H⟩ := round_settled 29 (by decide) (by decide) j H
  obtain ⟨r15, H⟩ := round_settled 16 (by decide) (by decide) j H
  obtain ⟨r16, H⟩ := round_settled 24 (by decide) (by decide) j H
  obtain ⟨i4, H⟩ := inject_settled j hk₁ ht H
  obtain ⟨r17, H⟩ := round_settled 13 (by decide) (by decide) j H
  obtain ⟨r18, H⟩ := round_settled 15 (by decide) (by decide) j H
  obtain ⟨r19, H⟩ := round_settled 26 (by decide) (by decide) j H
  obtain ⟨r20, H⟩ := round_settled 6 (by decide) (by decide) j H
  obtain ⟨i5, H⟩ := inject_settled j ht hk₀ H
  unfold cipher group
  rw [i5, r20, r19, r18, r17, i4, r16, r15, r14, r13, i3, r12, r11, r10, r9, i2, r8, r7, r6, r5, i1, r4, r3, r2, r1, e0]

end Key

end Cert.Proof.RefCipher

end
-- ==== Proof.Trip.lean ====
/- One trip of the kernel's loop, as the merge of twenty-four chunks into the carried candidates. -/
module

public import proofs.«01_k».proof.Proof.Chunk

@[expose] public section

set_option maxRecDepth 65536

noncomputable section

namespace Cert.Proof.Chunk

open Cert.KernelIdeal Cert.KernelIdeal.Gen Idealize.ShloMosaic Idealize.ShloMosaic.TcCoe Idealize.SL.Sem

variable {F : FTy → Type} [FloatOps F]

/-- The number of the `r`-th chunk of trip `k`, as the kernel computes it. -/
def chunkNo (k : Fin k0_t1_loop.trips) (r : Fin 24) : BitVec 32 :=
  Scalar.addi (Scalar.muli 24#32 (Scf.iv 0#32 1#32 k)) (BitVec.ofNat 32 r.val)

/-- The candidates of the `r`-th chunk of trip `k`: the chunk's perturbed logits and its number in every lane. -/
def chunk (i : grid0.Coords) (arg1 : Memref sig .tc .vmem S16x100000 .f32) (e : F .f32)
    (X : BufTy.Contents (Elt F) arg1.view.ty) (k : Fin k0_t1_loop.trips) (r : Fin 24) :
    FVec F S16x512 .f32 × IVec S16x512 32 :=
  (perturbed e (addi (k0_pay1048 i) (broadcast S16x512 (Scalar.muli (chunkNo k r) 512#32)))
      (View.readAt (Elt F) arg1.view
        (Rect.unit (s := S16x100000) (k0_off1 k (BitVec.ofNat 32 r.val)) S16x512.size (k0_off1_inb k r)).toLoadRect X),
    broadcast S16x512 (chunkNo k r))

set_option maxHeartbeats 4000000 in
/-- What one trip of the loop makes of the carried candidates. -/
theorem trip_eq (𝒱 : Variants) (c : Dev nD) (bd : Option 𝒱.V) (i : grid0.Coords)
    (arg1 : Memref sig .tc .vmem S16x100000 .f32) (harg1 : arg1.IsWhole)
    (arg2 : Memref sig .tc .vmem S16x100000 .f32) (harg2 : arg2.IsWhole) (e : F .f32)
    (X : BufTy.Contents (Elt F) arg1.view.ty) (k : Fin k0_t1_loop.trips) (acc : FVec F S16x512 .f32 × IVec S16x512 32) :
    tripR_k0_t1 (F := F) 𝒱 c bd i arg1 harg1 arg2 harg2 e X k acc = merge acc (merge24 (chunk i arg1 e X k)) := by
  unfold tripR_k0_t1 trip_k0_t1
  rfl

end Cert.Proof.Chunk

end
-- ==== Proof.Block.lean ====
/- What one grid point stores: the row winners the kernel finds, and the one-hot pieces it makes of them. -/
module

public import proofs.«01_k».proof.Proof.Trip

@[expose] public section

set_option maxRecDepth 65536

noncomputable section

namespace Cert.Proof.Chunk

open Cert.KernelIdeal Cert.KernelIdeal.Gen Idealize.ShloMosaic Idealize.ShloMosaic.TcCoe Idealize.SL.Sem

variable {F : FTy → Type} [FloatOps F]

/-- The small constant the kernel adds before each logarithm. -/
def eps : F .f32 := Scalar.ofBits .f32 0x2EDBE6FF#32

/-- The candidates the loop starts from: `-∞` and chunk 0 in every lane. -/
def start : FVec F S16x512 .f32 × IVec S16x512 32 :=
  (broadcast S16x512 (Scalar.ofBits .f32 0xFF800000#32), broadcast S16x512 0#32)

/-- The candidates carried before trip `n`. -/
def carried (i : grid0.Coords) (arg1 : Memref sig .tc .vmem S16x100000 .f32) (X : BufTy.Contents (Elt F) arg1.view.ty) :
    ℕ → FVec F S16x512 .f32 × IVec S16x512 32
  | 0 => start
  | n + 1 => if h : n < k0_t1_loop.trips then merge (carried i arg1 X n) (merge24 (chunk i arg1 eps X ⟨n, h⟩))
      else carried i arg1 X n

/-- The candidates of a chunk after the loop. -/
def lateChunk (i : grid0.Coords) (arg1 : Memref sig .tc .vmem S16x100000 .f32) (X : BufTy.Contents (Elt F) arg1.view.ty)
    (off : ℕ) (inb : ∀ a, (![0, off] : Fin 2 → ℕ) a + S16x512.size a ≤ S16x100000.size a) (base no : BitVec 32) :
    FVec F S16x512 .f32 × IVec S16x512 32 :=
  (perturbed eps (addi (k0_pay1048 i) (broadcast S16x512 base))
      (View.readAt (Elt F) arg1.view (Rect.unit (s := S16x100000) ![0, off] S16x512.size inb).toLoadRect X),
    broadcast S16x512 no)

/-- Three further candidates merged into the first one after another. -/
def merge3 {s : Shape} (p q₁ q₂ q₃ : FVec F s .f32 × IVec s 32) : FVec F s .f32 × IVec s 32 :=
  merge (merge (merge p q₁) q₂) q₃

/-- The candidates after every full chunk. -/
def lanes (i : grid0.Coords) (arg1 : Memref sig .tc .vmem S16x100000 .f32) (X : BufTy.Contents (Elt F) arg1.view.ty)
    (p : FVec F S16x512 .f32 × IVec S16x512 32) : FVec F S16x512 .f32 × IVec S16x512 32 :=
  merge3 p (lateChunk i arg1 X 98304 inb_S16x100000_S16x512_0_98304 98304#32 192#32)
    (lateChunk i arg1 X 98816 inb_S16x100000_S16x512_0_98816 98816#32 193#32)
    (lateChunk i arg1 X 99328 inb_S16x100000_S16x512_0_99328 99328#32 194#32)

/-- The perturbed logits of the last 160 columns. -/
def tail (i : grid0.Coords) (arg1 : Memref sig .tc .vmem S16x100000 .f32) (X : BufTy.Contents (Elt F) arg1.view.ty) :
    FVec F S16x160 .f32 :=
  perturbed eps
    (addi (addi (iota .tc S16x160 32 [1] iota_S16x160_d1_w32)
      (broadcastTo S16x160 (addi (k0_pay1047 i) (broadcast S16x1 3453687069#32)) broadcasts_S16x1_S16x160))
      (broadcast S16x160 99840#32))
    (View.readAt (Elt F) arg1.view
      (Rect.unit (s := S16x100000) ![0, 99840] S16x160.size inb_S16x100000_S16x160_0_99840).toLoadRect X)

/-- Each row's largest candidate, over the lanes and the tail. -/
def top (v : FVec F S16x512 .f32) (z : FVec F S16x160 .f32) : FVec F S16x1 .f32 :=
  maximumf
    (shapeCast S16x1 (multiReduction .maximumf [1] S16 v 0xFF800000#32 reduces_S16x512_S16 (.inl rfl) rfl) shapeCasts_S16_S16x1)
    (shapeCast S16x1 (multiReduction .maximumf [1] S16 z 0xFF800000#32 reduces_S16x160_S16 (.inl rfl) rfl) shapeCasts_S16_S16x1)

/-- Each row's winning column: the least column whose candidate is the row's largest. -/
def winner (p : FVec F S16x512 .f32 × IVec S16x512 32) (z : FVec F S16x160 .f32) : IVec S16x1 32 :=
  minsi
    (shapeCast S16x1 (multiReductionI .minsi [1] S16
      (select (cmpf .oeq p.1 (broadcastTo S16x512 (top p.1 z) broadcasts_S16x1_S16x512))
        (addi (muli p.2 (broadcast S16x512 512#32)) (iota .tc S16x512 32 [1] iota_S16x512_d1_w32))
        (broadcast S16x512 2147483647#32)) 2147483647#32 reduces_S16x512_S16 rfl) shapeCasts_S16_S16x1)
    (shapeCast S16x1 (multiReductionI .minsi [1] S16
      (select (cmpf .oeq z (broadcastTo S16x160 (top p.1 z) broadcasts_S16x1_S16x160))
        (addi (iota .tc S16x160 32 [1] iota_S16x160_d1_w32) (broadcast S16x160 99840#32))
        (broadcast S16x160 2147483647#32)) 2147483647#32 reduces_S16x160_S16 rfl) shapeCasts_S16_S16x1)

/-- The one-hot piece of the full chunk that starts at column `b`. -/
def hot (ix : IVec S16x1 32) (b : BitVec 32) : FVec F S16x512 .f32 :=
  sitofp .f32 (extui 32 (cmpi .eq (iota .tc S16x512 32 [1] iota_S16x512_d1_w32)
    (broadcastTo S16x512 (subi ix (broadcast S16x1 b)) broadcasts_S16x1_S16x512)) natLt_1_32)

/-- The one-hot piece of the last 160 columns. -/
def hotTail (ix : IVec S16x1 32) : FVec F S16x160 .f32 :=
  sitofp .f32 (extui 32 (cmpi .eq (iota .tc S16x160 32 [1] iota_S16x160_d1_w32)
    (broadcastTo S16x160 (subi ix (broadcast S16x1 99840#32)) broadcasts_S16x1_S16x160)) natLt_1_32)

/-- A full chunk's rectangle lies inside the block. -/
theorem inb_full (n : ℕ) (h : n < 195) (a : Fin 2) :
    (![0, 512 * n] : Fin 2 → ℕ) a + (![16, 512] : Fin 2 → ℕ) a ≤ S16x100000.size a := by
  match a with
  | 0 => exact Nat.le_refl 16
  | 1 => show 512 * n + 512 ≤ 100000; omega

/-- The first `n` full chunks' pieces, last first. -/
def pieces (ix : IVec S16x1 32) : (n : ℕ) → n ≤ 195 → List (View.Piece (Elt F) S16x100000 .f32)
  | 0, _ => []
  | n + 1, h => ⟨Rect.unit (s := S16x100000) ![0, 512 * n] ![16, 512] (inb_full n h), hot ix (BitVec.ofNat 32 (512 * n))⟩ ::
      pieces ix n (Nat.le_of_succ_le h)

/-- Every piece one grid point stores, last first. -/
def allPieces (ix : IVec S16x1 32) : List (View.Piece (Elt F) S16x100000 .f32) :=
  ⟨Rect.unit (s := S16x100000) ![0, 99840] ![16, 160] inb_S16x100000_S16x160_0_99840, hotTail ix⟩ ::
    pieces ix 195 (Nat.le_refl _)

/-- The loop's carried value is the candidates carried. -/
theorem loop_eq (𝒱 : Variants) (c : Dev nD) (bd : Option 𝒱.V) (i : grid0.Coords)
    (arg1 : Memref sig .tc .vmem S16x100000 .f32) (harg1 : arg1.IsWhole)
    (arg2 : Memref sig .tc .vmem S16x100000 .f32) (harg2 : arg2.IsWhole)
    (X : BufTy.Contents (Elt F) arg1.view.ty) (n : ℕ) (hn : n ≤ k0_t1_loop.trips) :
    st_k0_t1 (F := F) 𝒱 c bd i arg1 harg1 arg2 harg2 eps X (k0_pay1049, k0_pay1050) n = carried i arg1 X n := by
  induction n with
  | zero => rfl
  | succ n ih =>
    rw [st_k0_t1_succ (F := F) 𝒱 c bd i arg1 harg1 arg2 harg2 eps X (k0_pay1049, k0_pay1050) ⟨n, hn⟩, trip_eq,
      ih (Nat.le_of_succ_le hn), carried, dif_pos (show n < k0_t1_loop.trips from hn)]

set_option maxHeartbeats 4000000 in
/-- The pieces a grid point stores are the one-hot pieces of its rows' winners. -/
theorem run_pieces (c : Dev nD) (i : grid0.Coords)
    (arg1 : Memref sig .tc .vmem S16x100000 .f32) (harg1 : arg1.IsWhole)
    (arg2 : Memref sig .tc .vmem S16x100000 .f32) (harg2 : arg2.IsWhole) (x0 : Vec F S16x100000 .f32) :
    (kernelRun0_A (F := F) c i arg1 harg1 arg2 harg2 x0).1
      = allPieces (winner (lanes i arg1 (harg1.unread x0)
          (st_k0_t1 (F := F) Variants.none c none i arg1 harg1 arg2 harg2 eps (harg1.unread x0) (k0_pay1049, k0_pay1050)
            (Scf.trips k0_t1_loop.lb k0_t1_loop.ub k0_t1_loop.st)))
          (tail i arg1 (harg1.unread x0))) := by
  unfold kernelRun0_A
  rfl

end Cert.Proof.Chunk

end
-- ==== Proof.Noise.lean ====
/- The Gumbel noise of a word of random bits: what it is over the reals, and that it is finite. -/
module

public import proofs.«01_k».proof.Proof.Cipher
public import proofs.«01_k».proof.Proof.Block
public import Idealize.ShloMosaic.Lib.Pointwise

@[expose] public section

set_option maxRecDepth 16384

noncomputable section

namespace Cert.Proof.Noise

open Idealize.ShloMosaic Cert.Proof.Chunk Cert.Proof.Cipher

/-- The float in `[1, 2)` whose fraction is the word's top 23 bits. -/
def mant (w : BitVec 32) : EReal := Ideal.ofBits .f32 (w >>> 9 ||| 1065353216#32)

/-- The small constant. -/
def ε : EReal := Ideal.ofBits .f32 0x2EDBE6FF#32

/-- The noise of a word. -/
def gumbel (w : BitVec 32) : EReal := -Ideal.log (-Ideal.log (mant w - 1 + ε) + ε)

theorem mant_eq (w : BitVec 32) : ∃ v : ℝ, mant w = (v : EReal) ∧ 1 ≤ v ∧ v ≤ 2 - 1 / 2 ^ 23 := by
  have h1 : (w >>> 9 ||| 1065353216#32).extractLsb' 31 1 = 0#1 := by
    ext i hi
    obtain rfl : i = 0 := by omega
    simp
  have h2 : (w >>> 9 ||| 1065353216#32).extractLsb' 23 8 = 127#8 := by
    ext i hi
    have hw : w.getLsbD (9 + (23 + i)) = false := BitVec.getLsbD_of_ge _ _ (by omega)
    simp only [BitVec.getElem_extractLsb', BitVec.getLsbD_or, BitVec.getLsbD_ushiftRight, hw, Bool.false_or]
    clear hw
    revert i; decide
  have hfr := ((w >>> 9 ||| 1065353216#32).extractLsb' 0 23).isLt
  have e : mant w = (((1 : ℝ) * ((2 ^ 23 + ((w >>> 9 ||| 1065353216#32).extractLsb' 0 23).toNat : ℕ) : ℝ)
      * (2 : ℝ) ^ (-23 : ℤ) : ℝ) : EReal) := by
    unfold mant Ideal.ofBits Ideal.ieee
    simp only [Nat.reduceAdd, h1, h2]
    norm_num
  generalize ((w >>> 9 ||| 1065353216#32).extractLsb' 0 23).toNat = n at *
  refine ⟨_, e, ?_, ?_⟩
  · push_cast
    have : (0 : ℝ) ≤ n := Nat.cast_nonneg n
    norm_num
    linarith
  · push_cast
    have hn : (n : ℝ) ≤ 8388607 := by exact_mod_cast (by omega : n ≤ 8388607)
    norm_num
    linarith

theorem ε_eq : ∃ v : ℝ, ε = (v : EReal) ∧ 0 < v ∧ v < 1 / 2 ^ 23 := by
  refine ⟨(1 : ℝ) * ((2 ^ 23 + 6022911 : ℕ) : ℝ) * (2 : ℝ) ^ (-57 : ℤ), ?_, by positivity, by norm_num⟩
  have h1 : (0x2EDBE6FF#32).extractLsb' 31 1 = 0#1 := by decide
  have h2 : (0x2EDBE6FF#32).extractLsb' 23 8 = 93#8 := by decide
  have h3 : (0x2EDBE6FF#32).extractLsb' 0 23 = 6022911#23 := by decide
  unfold ε Ideal.ofBits Ideal.ieee
  simp only [Nat.reduceAdd, h1, h2, h3]
  norm_num

theorem log_coe {r : ℝ} (h : 0 < r) : Ideal.log (r : EReal) = ((Real.log r : ℝ) : EReal) := by
  show (if r ≤ 0 then (⊥ : EReal) else _) = _
  rw [if_neg (not_le.2 h)]

/-- The noise is a real number. -/
theorem gumbel_finite (w : BitVec 32) : ∃ g : ℝ, gumbel w = (g : EReal) := by
  obtain ⟨v, hv, h1, h2⟩ := mant_eq w
  obtain ⟨e, he, h3, h4⟩ := ε_eq
  have hu : 0 < v - 1 + e := by linarith
  have hu1 : v - 1 + e < 1 := by linarith
  have ha : 0 < -Real.log (v - 1 + e) + e := by have := Real.log_neg hu hu1; linarith
  refine ⟨-Real.log (-Real.log (v - 1 + e) + e), ?_⟩
  unfold gumbel
  rw [hv, he, show ((v : EReal) - 1 + (e : EReal)) = ((v - 1 + e : ℝ) : EReal) by norm_cast, log_coe hu,
    show (-((Real.log (v - 1 + e) : ℝ) : EReal) + (e : EReal)) = ((-Real.log (v - 1 + e) + e : ℝ) : EReal) by norm_cast,
    log_coe ha]
  norm_cast

/-- The uniform sample is not negative. -/
theorem unit_nonneg (w : BitVec 32) : 0 ≤ mant w - 1 := by
  obtain ⟨v, hv, h1, _⟩ := mant_eq w
  rw [hv, show ((v : EReal) - 1) = ((v - 1 : ℝ) : EReal) by norm_cast]
  exact_mod_cast sub_nonneg.2 h1

/-- The kernel's noise at an index. -/
theorem noise_apply {s : Shape} (w : IVec s 32) (j : s.Idx) : noise (F := Ideal) eps w j = gumbel (w j) := by
  pointwise [noise, eps]
  rw [shrui_lit .vector (w j) 9 (by decide)]
  simp only [zero_sub]
  rfl

/-- The kernel's perturbed logits at an index whose word is the counter offset by the second key word. -/
theorem perturbed_at {s : Shape} (x : IVec s 32) (logits : FVec Ideal s .f32) (j : s.Idx) (l : BitVec 32)
    (h : x j = l + 3453687069#32) : perturbed (F := Ideal) eps x logits j = logits j + gumbel (bitsAt l) := by
  show logits j + noise (F := Ideal) eps (bits x) j = _
  rw [noise_apply, bits_at x j l h]

end Cert.Proof.Noise

end
-- ==== Proof.RefNoise.lean ====
/- The reference's random words and uniform samples at an element. -/
module

public import Idealize.ShloMosaic.Lib.Pointwise
public import proofs.«01_k».proof.Proof.RefCipher
public import proofs.«01_k».proof.Proof.Noise

@[expose] public section

set_option maxRecDepth 16384

noncomputable section

namespace Cert.Proof.RefNoise

open Idealize.ShloMosaic Idealize.ShloMosaic.StableHlo Idealize.SL.Sem Cert.ReferenceIdeal Cert.Proof.Line Cert.Proof.RefLines
open Cert.Proof.RefCipher Cert.Proof.Cipher Cert.Proof.Noise

variable {μ : Valuation τ sig (Elt Ideal)} {ops : List (HloOp τ sig (Elt Ideal))}

/-- A shift by the whole width leaves nothing. -/
theorem shrui_whole (z : BitVec 32) : IntOp.shrui .host z 32#32 = 0#32 := by
  unfold IntOp.shrui IntOp.cornerWord
  simp

/-- Folding one into the key of zeros. -/
theorem foldIn_settled {a₀ : TRef sig ⟨S2, .i32⟩} {a₁ : TRef sig ⟨S_, .i32⟩} {φ : fn_threefry_fold_in.Bufs}
    (h₀ : word μ a₀ (ix1 0) = 0#32) (h₁ : word μ a₀ (ix1 1) = 0#32) (hw : ∀ i, word μ a₁ i = 1#32)
    (H : Settled μ (foldIn a₀ a₁ φ).1) :
    word μ φ.v12 (ix1 0) = 928981903#32 ∧ word μ φ.v12 (ix1 1) = 3453687069#32 := by
  dsimp only [foldIn] at H
  simp only [List.cons_append, List.nil_append] at H
  obtain ⟨e1, H⟩ := H.nullary
  obtain ⟨e2, H⟩ := H.binary
  obtain ⟨e3, H⟩ := H.unary
  obtain ⟨e4, H⟩ := H.nullary
  obtain ⟨e5, H⟩ := H.binary
  obtain ⟨e6, H⟩ := H.unary
  obtain ⟨e7, H⟩ := H.binary
  obtain ⟨e8, H⟩ := H.unary
  obtain ⟨e9, H⟩ := H.reshape
  obtain ⟨e10, H⟩ := H.unary
  obtain ⟨e11, H⟩ := H.reshape
  obtain ⟨e12, H⟩ := H.unary
  obtain ⟨e13, H⟩ := H.unary
  obtain ⟨K, H⟩ := H.append
  obtain ⟨e14, -⟩ := H.binary
  have k0 : ∀ i, word μ φ.v6 i = 0#32 := fun i => by
    unfold word at h₀ ⊢
    rw [e9, e8]
    pointwise
    exact h₀
  have k1 : ∀ i, word μ φ.v8 i = 0#32 := fun i => by
    unfold word at h₁ ⊢
    rw [e11, e10]
    pointwise
    exact h₁
  have c0 : word μ φ.v9 (ix1 0) = 0#32 := by
    unfold word
    rw [e12, e7, e3, e2, e1]
    pointwise
    exact shrui_whole _
  have c1 : word μ φ.v10 (ix1 0) = 1#32 := by
    unfold word
    rw [e13, e7, e6, e5, e4]
    pointwise
    rw [show rd μ a₁ _ = 1#32 from hw _]
    decide
  have b := key_settled k0 k1 K (ix1 0)
  rw [c0, c1, show cipher 0#32 0#32 0#32 1#32 = (928981903#32, 3453687069#32) by decide +kernel] at b
  have b1 := congrArg Prod.fst b
  have b2 := congrArg Prod.snd b
  unfold duo at b1 b2
  unfold word at b1 b2 ⊢
  rw [e14]
  constructor
  · pointwise
    exact b1
  · pointwise
    exact b2

/-- A uniform sample from the key: the fraction of the element's word. -/
theorem uniform_settled {a₀ : TRef sig ⟨S2, .i32⟩} {a₁ a₂ : TRef sig ⟨S_, .f32⟩} {φ : fn_uniform.Bufs}
    (h₀ : word μ a₀ (ix1 0) = 928981903#32) (h₁ : word μ a₀ (ix1 1) = 3453687069#32)
    (hl : ∀ i, rd μ a₁ i = (0 : EReal)) (hh : ∀ i, rd μ a₂ i = (1 : EReal))
    (H : Settled μ (uniform a₀ a₁ a₂ φ).1) (p : Fin 128) (q : Fin 100000) :
    rd μ φ.v34 (ix2 p q) = mant (bitsAt (BitVec.ofNat 32 (p.val * 100000 + q.val))) - 1 := by
  dsimp only [uniform] at H
  simp only [List.cons_append, List.nil_append] at H
  obtain ⟨e1, H⟩ := H.unary
  obtain ⟨e2, H⟩ := H.unary
  obtain ⟨e3, H⟩ := H.unary
  obtain ⟨e4, H⟩ := H.unary
  obtain ⟨e5, H⟩ := H.unary
  obtain ⟨e6, H⟩ := H.reshape
  obtain ⟨e7, H⟩ := H.unary
  obtain ⟨e8, H⟩ := H.reshape
  obtain ⟨e9, H⟩ := H.nullary
  obtain ⟨e10, H⟩ := H.nullary
  obtain ⟨e11, H⟩ := H.nullary
  obtain ⟨e12, H⟩ := H.unary
  obtain ⟨e13, H⟩ := H.binary
  obtain ⟨e14, H⟩ := H.nullary
  obtain ⟨e15, H⟩ := H.unary
  obtain ⟨e16, H⟩ := H.binary
  obtain ⟨e17, H⟩ := H.binary
  obtain ⟨e18, H⟩ := H.nullary
  obtain ⟨e19, H⟩ := H.unary
  obtain ⟨e20, H⟩ := H.binary
  obtain ⟨e21, H⟩ := H.unary
  obtain ⟨e22, H⟩ := H.unary
  obtain ⟨K, H⟩ := H.append
  obtain ⟨f1, H⟩ := H.binary
  obtain ⟨f2, H⟩ := H.nullary
  obtain ⟨f3, H⟩ := H.unary
  obtain ⟨f4, H⟩ := H.binary
  obtain ⟨f5, H⟩ := H.nullary
  obtain ⟨f6, H⟩ := H.unary
  obtain ⟨f7, H⟩ := H.binary
  obtain ⟨f8, H⟩ := H.unary
  obtain ⟨f9, H⟩ := H.nullary
  obtain ⟨f10, H⟩ := H.unary
  obtain ⟨f11, H⟩ := H.binary
  obtain ⟨f12, H⟩ := H.binary
  obtain ⟨f13, H⟩ := H.unary
  obtain ⟨f14, H⟩ := H.binary
  obtain ⟨f15, H⟩ := H.unary
  obtain ⟨f16, H⟩ := H.binary
  obtain ⟨f17, H⟩ := H.unary
  obtain ⟨f18, -⟩ := H.binary
  clear H
  have k0 : ∀ i, word μ φ.v5 i = 928981903#32 := fun i => by
    unfold word at h₀ ⊢
    rw [e6, e5]
    pointwise
    exact h₀
  have k1 : ∀ i, word μ φ.v7 i = 3453687069#32 := fun i => by
    unfold word at h₁ ⊢
    rw [e8, e7]
    pointwise
    exact h₁
  have n : 100000#64 * BitVec.ofNat 64 p.val + 1#64 * BitVec.ofNat 64 q.val = BitVec.ofNat 64 (p.val * 100000 + q.val) := by
    rw [BitVec.one_mul, show (100000#64 : BitVec 64) = BitVec.ofNat 64 100000 from rfl, ← BitVec.ofNat_mul, ← BitVec.ofNat_add,
      Nat.mul_comm]
  have lt : p.val * 100000 + q.val < 12800000 := by omega
  have c1 : word μ φ.v17 (ix2 p q) = BitVec.ofNat 32 (p.val * 100000 + q.val) := by
    unfold word
    rw [e21, e17, e16, e15, e14, e13, e12, e11, e10, e9]
    pointwise
    exact (congrArg (BitVec.setWidth 32) n).trans (BitVec.setWidth_ofNat_of_le (by decide) _)
  have c0 : word μ φ.v18 (ix2 p q) = 0#32 := by
    unfold word
    rw [e22, e20, e19, e18, e17, e16, e15, e14, e13, e12, e11, e10, e9]
    pointwise
    refine (congrArg (fun z => BitVec.setWidth 32 (IntOp.shrui .host z 32#64)) n).trans ?_
    unfold IntOp.shrui
    rw [if_pos (by decide)]
    apply BitVec.eq_of_toNat_eq
    show ((BitVec.ofNat 64 (p.val * 100000 + q.val)).toNat >>> 32) % 2 ^ 32 = 0
    rw [BitVec.toNat_ofNat, Nat.mod_eq_of_lt (by omega), Nat.shiftRight_eq_div_pow, Nat.div_eq_of_lt (by omega)]
  have b := bits_settled k0 k1 K (ix2 p q)
  rw [c0, c1] at b
  have bw : rd μ φ.v20 (ix2 p q) = bitsAt (BitVec.ofNat 32 (p.val * 100000 + q.val)) := by
    rw [f1]
    unfold bitsAt
    rw [← b]
    rfl
  have u : rd μ φ.v25 (ix2 p q) = mant (bitsAt (BitVec.ofNat 32 (p.val * 100000 + q.val))) := by
    rw [f8, f7, f6, f5, f4, f3, f2]
    pointwise
    rw [bw]
    exact congrArg (fun z => Ideal.ofBits .f32 (z ||| 1065353216#32)) (shrui_lit .host _ 9 (by decide))
  rw [f18, f17, f16, f15, f14, f13, f12, f11, f10, f9, e4, e3, e2, e1]
  pointwise
  rw [u, show id (rd μ a₁) ix0 = (0 : EReal) from hl _, show id (rd μ a₂) ix0 = (1 : EReal) from hh _, sub_zero, mul_one, add_zero]
  exact max_eq_right (unit_nonneg _)

end Cert.Proof.RefNoise

end
-- ==== Proof.RefMain.lean ====
/- The reference's result, operation by operation: the perturbed logits, the softmax, its argmax, the one-hot rows. -/
module

public import Idealize.ShloMosaic.Lib.Pointwise
public import proofs.«01_k».proof.Proof.RefNoise

@[expose] public section

set_option maxRecDepth 16384

noncomputable section

namespace Cert.Proof.RefMain

open Idealize.ShloMosaic Idealize.ShloMosaic.StableHlo Idealize.SL.Sem Cert.ReferenceIdeal Cert.Proof.Line Cert.Proof.RefLines
open Cert.Proof.RefCipher Cert.Proof.Cipher Cert.Proof.Noise Cert.Proof.RefNoise
open Facts₀

variable (μ : Valuation τ sig (Elt Ideal))

/-- The key the reference starts from. -/
abbrev start : IVec S2 32 := rd μ (.of main_v6)
/-- The uniform samples. -/
abbrev uniforms : FVec Ideal S128x100000 .f32 := rd μ (.of main_v8)
/-- The one-hot rows. -/
abbrev hot : FVec Ideal S128x100000 .f32 := rd μ (.of main_v32)
/-- The logits. -/
abbrev logits : FVec Ideal S128x100000 .f32 := rd μ (.of main_arg0)
/-- The perturbed logits. -/
abbrev noisy : FVec Ideal S128x100000 .f32 := rd μ (.of main_v19)
/-- Their softmax. -/
abbrev soft : FVec Ideal S128x100000 .f32 := rd μ (.of main_v30)
/-- The place of each row's largest softmax. -/
abbrev place : IVec S128 32 := rd μ (.of main_v31)
/-- The result. -/
abbrev result : FVec Ideal S128x100000 .f32 := rd μ (.of main_v34)

/-- The starting key's term. -/
def startOf : IVec S2 32 :=
  concatenate S2 0 [⟨S1, broadcastInDim S1 ![] bcast_S_S1 (id (Host.shrui (constantI S_ 32 0#32) (constantI S_ 32 32#32)))⟩,
    ⟨S1, broadcastInDim S1 ![] bcast_S_S1 (id (andi (constantI S_ 32 0#32) (constantI S_ 32 4294967295#32)))⟩]
    concatenates_S1_S1_S2_d0

/-- The perturbed logits' term. -/
def noisyOf (x u : FVec Ideal S128x100000 .f32) : FVec Ideal S128x100000 .f32 :=
  Host.divf (addf x (Host.negf (Host.log (addf (Host.negf (Host.log (addf u
    (broadcastInDim S128x100000 ![] bcast_S_S128x100000 (constant S_ .f32 0x2EDBE6FF#32)))))
    (broadcastInDim S128x100000 ![] bcast_S_S128x100000 (constant S_ .f32 0x2EDBE6FF#32))))))
    (broadcastInDim S128x100000 ![] bcast_S_S128x100000 (constant S_ .f32 0x3F800000#32))

/-- The rows' maxima's term. -/
def topOf (z : FVec Ideal S128x100000 .f32) : FVec Ideal S128 .f32 :=
  Host.reduce FloatOps.maximumf z (constant S_ .f32 0xFF800000#32) reducesTo_S128x100000_S128_d1 h_S_

/-- The exponentials' term. -/
def expOf (z : FVec Ideal S128x100000 .f32) (t : FVec Ideal S128 .f32) : FVec Ideal S128x100000 .f32 :=
  Host.exp (subf z (broadcastInDim S128x100000 ![0, 1] bcast_S128x1_S128x100000_0_1 (broadcastInDim S128x1 ![0] bcast_S128_S128x1_0
    (maximumf (broadcastInDim S128 ![] bcast_S_S128 (constant S_ .f32 0xFF800000#32)) t))))

/-- The softmax's term. -/
def softOf (e : FVec Ideal S128x100000 .f32) : FVec Ideal S128x100000 .f32 :=
  Host.divf e (broadcastInDim S128x100000 ![0, 1] bcast_S128x1_S128x100000_0_1 (broadcastInDim S128x1 ![0] bcast_S128_S128x1_0
    (Host.reduceAdd e (constant S_ .f32 0x00000000#32) reducesTo_S128x100000_S128_d1 h_S_)))

theorem startOf_at : startOf (ix1 0) = 0#32 ∧ startOf (ix1 1) = 0#32 := by
  constructor
  · pointwise [startOf]
    exact shrui_whole 0#32
  · pointwise [startOf]
    show 0#32 &&& 4294967295#32 = 0#32
    decide

theorem noisyOf_at (x u : FVec Ideal S128x100000 .f32) (p : Fin 128) (q : Fin 100000) :
    noisyOf x u (ix2 p q) = Ideal.div (x (ix2 p q) + -Ideal.log (-Ideal.log (u (ix2 p q) + ε) + ε)) 1 := by
  pointwise [noisyOf, ε]

theorem topOf_at (z : FVec Ideal S128x100000 .f32) (p : Fin 128) :
    topOf z (ix1 p) = Finset.univ.fold max (Ideal.ofBits .f32 0xFF800000#32) fun l => z (ix2 p l) := by
  pointwise [topOf]

theorem expOf_at (z : FVec Ideal S128x100000 .f32) (t : FVec Ideal S128 .f32) (p : Fin 128) (q : Fin 100000) :
    expOf z t (ix2 p q) = Ideal.exp (z (ix2 p q) - max (Ideal.ofBits .f32 0xFF800000#32) (t (ix1 p))) := by
  pointwise [expOf]

theorem softOf_at (e : FVec Ideal S128x100000 .f32) (p : Fin 128) (q : Fin 100000) :
    softOf e (ix2 p q) = Ideal.div (e (ix2 p q)) (∑ l, e (ix2 p l)) := by
  pointwise [softOf]

/-- What the reference's values are, call by call and term by term. -/
structure Terms : Prop where
  foldIn : Settled μ (foldIn (.of main_v6) (.of main_c_2) main_call0).1
  uniform : Settled μ (uniform (.of main_v7) (.of main_cst) (.of main_cst_3) main_call1).1
  argmax : Settled μ (argmax (.of main_v30) main_call2).1
  oneHot : Settled μ (oneHot (.of main_v31) main_call3).1
  start_eq : start μ = startOf
  word_eq : rd μ (.of main_c_2 : TRef sig ⟨S_, .i32⟩) = constantI S_ 32 1#32
  lo_eq : rd μ (.of main_cst : TRef sig ⟨S_, .f32⟩) = constant (F := Ideal) S_ .f32 0x00000000#32
  hi_eq : rd μ (.of main_cst_3 : TRef sig ⟨S_, .f32⟩) = constant (F := Ideal) S_ .f32 0x3F800000#32
  noisy_eq : noisy μ = noisyOf (logits μ) (uniforms μ)
  soft_eq : soft μ = softOf (expOf (noisy μ) (topOf (noisy μ)))
  result_eq : result μ = addf (subf (hot μ) (soft μ)) (soft μ)

variable {μ}

/-- The reference's values are those terms. -/
theorem terms {d : Dev nD} (H : Settled μ (whole d).1) : Terms μ := by
  dsimp only [whole] at H
  obtain ⟨e1, H⟩ := H.nullary₀
  obtain ⟨e2, H⟩ := H.nullary₀
  obtain ⟨e3, H⟩ := H.binary₀
  obtain ⟨e4, H⟩ := H.unary₀
  obtain ⟨e5, H⟩ := H.unary₀
  obtain ⟨e6, H⟩ := H.nullary₀
  obtain ⟨e7, H⟩ := H.binary₀
  obtain ⟨e8, H⟩ := H.unary₀
  obtain ⟨e9, H⟩ := H.unary₀
  obtain ⟨e10, H⟩ := H.binary₀
  obtain ⟨e11, H⟩ := H.nullary₀
  obtain ⟨A, H⟩ := H.append
  obtain ⟨e12, H⟩ := H.nullary₀
  obtain ⟨e13, H⟩ := H.nullary₀
  obtain ⟨C, H⟩ := H.append
  obtain ⟨e14, H⟩ := H.nullary₀
  obtain ⟨e15, H⟩ := H.unary₀
  obtain ⟨e16, H⟩ := H.binary₀
  obtain ⟨e17, H⟩ := H.unary₀
  obtain ⟨e18, H⟩ := H.unary₀
  obtain ⟨e19, H⟩ := H.nullary₀
  obtain ⟨e20, H⟩ := H.unary₀
  obtain ⟨e21, H⟩ := H.binary₀
  obtain ⟨e22, H⟩ := H.unary₀
  obtain ⟨e23, H⟩ := H.unary₀
  obtain ⟨e24, H⟩ := H.binary₀
  obtain ⟨e25, H⟩ := H.nullary₀
  obtain ⟨e26, H⟩ := H.unary₀
  obtain ⟨e27, H⟩ := H.binary₀
  obtain ⟨e28, H⟩ := H.nullary₀
  obtain ⟨e29, H⟩ := H.binary₀
  obtain ⟨e30, H⟩ := H.nullary₀
  obtain ⟨e31, H⟩ := H.unary₀
  obtain ⟨e32, H⟩ := H.binary₀
  obtain ⟨e33, H⟩ := H.unary₀
  obtain ⟨e34, H⟩ := H.unary₀
  obtain ⟨e35, H⟩ := H.binary₀
  obtain ⟨e36, H⟩ := H.unary₀
  obtain ⟨e37, H⟩ := H.nullary₀
  obtain ⟨e38, H⟩ := H.binary₀
  obtain ⟨e39, H⟩ := H.unary₀
  obtain ⟨e40, H⟩ := H.unary₀
  obtain ⟨e41, H⟩ := H.binary₀
  obtain ⟨D, H⟩ := H.append
  obtain ⟨E, H⟩ := H.append
  obtain ⟨e42, H⟩ := H.binary₀
  obtain ⟨e43, H⟩ := H.binary₀
  clear H
  refine ⟨A, C, D, E, ?_, ?_, ?_, ?_, ?_, ?_, ?_⟩
  · refine e10.trans ?_
    rw [e9, e8, e7, e6, e5, e4, e3, e2, e1]; rfl
  · exact e11
  · exact e12
  · exact e13
  · refine e27.trans ?_
    rw [e26, e25, e24, e23, e22, e21, e20, e19, e18, e17, e16, e15, e14]; rfl
  · have h : (μ (Proc.devRef .tc main_v26) : FVec Ideal S128x100000 .f32) = expOf (noisy μ) (topOf (noisy μ)) := by
      have t : (μ (Proc.devRef .tc main_v20) : FVec Ideal S128 .f32) = topOf (noisy μ) := by
        refine e29.trans ?_
        rw [e28]; rfl
      refine Eq.trans (e36.trans ?_) (congrArg (expOf (noisy μ)) t)
      rw [e35, e34, e33, e32, e31, e30]; rfl
    refine Eq.trans (e41.trans ?_) (congrArg softOf h)
    rw [e40, e39, e38, e37]; rfl
  · refine e43.trans ?_
    rw [e42]; rfl

end Cert.Proof.RefMain

end
-- ==== Proof.First.lean ====
/- The first place where a row is largest, and how such places merge over neighbouring ranges. -/
module

public import proofs.«01_k».proof.Proof.Block
public import Idealize.ShloMosaic.PureOps.Ideal.Laws

@[expose] public section

set_option maxRecDepth 16384

noncomputable section

namespace Cert.Proof.First

open Idealize.ShloMosaic Cert.Proof.Chunk

/-- `w` is the first place from `a` up to `b` where `f` is largest. -/
def IsFirst (f : ℕ → EReal) (a b w : ℕ) : Prop :=
  a ≤ w ∧ w < b ∧ ∀ c, a ≤ c → c < b → f c ≤ f w ∧ (f c = f w → w ≤ c)

/-- There is only one first place. -/
theorem IsFirst.unique {f : ℕ → EReal} {a b w w' : ℕ} (h : IsFirst f a b w) (h' : IsFirst f a b w') : w = w' := by
  obtain ⟨h1, h2, h3⟩ := h
  obtain ⟨h1', h2', h3'⟩ := h'
  have e := le_antisymm (h3 w' h1' h2').1 (h3' w h1 h2).1
  exact le_antisymm ((h3 w' h1' h2').2 e) ((h3' w h1 h2).2 e.symm)

/-- A range of one place. -/
theorem isFirst_single (f : ℕ → EReal) (c : ℕ) : IsFirst f c (c + 1) c :=
  ⟨le_rfl, Nat.lt_succ_self c, fun d h h' => by
    obtain rfl : d = c := by omega
    exact ⟨le_rfl, fun _ => le_rfl⟩⟩

/-- Neighbouring ranges merge: the later place is taken where it is strictly larger. -/
theorem IsFirst.merge {f : ℕ → EReal} {a b c w w' : ℕ} (h : IsFirst f a b w) (h' : IsFirst f b c w') :
    IsFirst f a c (if f w < f w' then w' else w) := by
  obtain ⟨h1, h2, h3⟩ := h
  obtain ⟨h1', h2', h3'⟩ := h'
  split
  · next hlt =>
    refine ⟨by omega, h2', fun d hd hd' => ?_⟩
    rcases lt_or_ge d b with hb | hb
    · have := (h3 d hd hb).1.trans_lt hlt
      exact ⟨this.le, fun e => absurd e this.ne⟩
    · exact h3' d hb hd'
  · next hlt =>
    have hle := not_lt.1 hlt
    refine ⟨h1, by omega, fun d hd hd' => ?_⟩
    rcases lt_or_ge d b with hb | hb
    · exact h3 d hd hb
    · exact ⟨(h3' d hb hd').1.trans hle, fun _ => by omega⟩

/-- The candidate `(v, j)` is the first largest value over the range with its place. -/
def Holds (f : ℕ → EReal) (a b : ℕ) (v : EReal) (j : BitVec 32) : Prop :=
  ∃ w, IsFirst f a b w ∧ v = f w ∧ j = BitVec.ofNat 32 w

variable {s : Shape} {f : ℕ → EReal} {i : s.Idx}

theorem pick_apply (v v' : FVec Ideal s .f32) (i : s.Idx) :
    pick v v' i = if v i < v' i then v' i else v i := by
  show (if BitVec.ofBool (decide (v i < v' i)) = 1#1 then v' i else v i) = _
  by_cases h : v i < v' i <;> simp [h]

theorem pickAt_apply (v v' : FVec Ideal s .f32) (j j' : IVec s 32) (i : s.Idx) :
    pickAt v v' j j' i = if v i < v' i then j' i else j i := by
  show (if BitVec.ofBool (decide (v i < v' i)) = 1#1 then j' i else j i) = _
  by_cases h : v i < v' i <;> simp [h]

/-- Candidates over neighbouring ranges merge. -/
theorem Holds.merge {a b c : ℕ} {p q : FVec Ideal s .f32 × IVec s 32} (h : Holds f a b (p.1 i) (p.2 i))
    (h' : Holds f b c (q.1 i) (q.2 i)) : Holds f a c ((Chunk.merge p q).1 i) ((Chunk.merge p q).2 i) := by
  obtain ⟨w, h1, h2, h3⟩ := h
  obtain ⟨w', h1', h2', h3'⟩ := h'
  refine ⟨_, h1.merge h1', ?_, ?_⟩
  · show pick p.1 q.1 i = _
    rw [pick_apply, h2, h2']; split <;> rfl
  · show pickAt p.1 q.1 p.2 q.2 i = _
    rw [pickAt_apply, h2, h2', h3, h3']; split <;> rfl

/-- Twenty-four neighbouring places merge by the kernel's tree. -/
theorem holds_merge24 {a : ℕ} {p : Fin 24 → FVec Ideal s .f32 × IVec s 32}
    (h : ∀ r : Fin 24, Holds f (a + r.val) (a + r.val + 1) ((p r).1 i) ((p r).2 i)) :
    Holds f a (a + 24) ((merge24 p).1 i) ((merge24 p).2 i) :=
  Holds.merge
    (Holds.merge
      (Holds.merge (Holds.merge (Holds.merge (h 0) (h 1)) (Holds.merge (h 2) (h 3)))
        (Holds.merge (Holds.merge (h 4) (h 5)) (Holds.merge (h 6) (h 7))))
      (Holds.merge (Holds.merge (Holds.merge (h 8) (h 9)) (Holds.merge (h 10) (h 11)))
        (Holds.merge (Holds.merge (h 12) (h 13)) (Holds.merge (h 14) (h 15)))))
    (Holds.merge (Holds.merge (Holds.merge (h 16) (h 17)) (Holds.merge (h 18) (h 19)))
      (Holds.merge (Holds.merge (h 20) (h 21)) (Holds.merge (h 22) (h 23))))

/-- Merging into the starting candidate, `-∞` at place 0, changes nothing. -/
theorem Holds.merge_start {c : ℕ} {p q : FVec Ideal s .f32 × IVec s 32} (hv : p.1 i = ⊥) (hj : p.2 i = 0#32)
    (h : Holds f 0 c (q.1 i) (q.2 i)) : Holds f 0 c ((Chunk.merge p q).1 i) ((Chunk.merge p q).2 i) := by
  obtain ⟨w, h1, h2, h3⟩ := h
  refine ⟨w, h1, ?_, ?_⟩
  · show pick p.1 q.1 i = _
    rw [pick_apply, hv, h2]
    split
    · rfl
    · next hn => rw [not_bot_lt_iff] at hn; exact hn.symm
  · show pickAt p.1 q.1 p.2 q.2 i = _
    rw [pickAt_apply, hv, hj, h2, h3]
    split
    · rfl
    · next hn =>
      rw [not_bot_lt_iff] at hn
      have := h1.2.2 0 le_rfl (by have := h1.2.1; omega)
      have h0 : w = 0 := Nat.le_zero.1 (this.2 (by rw [hn] at this ⊢; exact le_bot_iff.1 this.1))
      rw [h0]

/-! ## The least column among lanes -/

/-- Columns come in full chunks of 512 and a tail of 160. `M` is the row's largest value, `w` the least of the columns
    at which a lane's first largest candidate or a tail column reaches it: then `w` is the row's first largest place. -/
theorem isFirst_of_lanes {Y : ℕ → EReal} {j : Fin 512 → ℕ} (hj : ∀ l : Fin 512, IsFirst (fun c => Y (512 * c + l.val)) 0 195 (j l))
    {M : EReal} (hM : ∀ l, Y (512 * j l + l.val) ≤ M) (hM' : ∀ l : Fin 160, Y (99840 + l.val) ≤ M) {w : ℕ}
    (hw : ∀ l, Y (512 * j l + l.val) = M → w ≤ 512 * j l + l.val)
    (hw' : ∀ l : Fin 160, Y (99840 + l.val) = M → w ≤ 99840 + l.val)
    (hat : (∃ l, Y (512 * j l + l.val) = M ∧ w = 512 * j l + l.val) ∨ ∃ l : Fin 160, Y (99840 + l.val) = M ∧ w = 99840 + l.val) :
    IsFirst Y 0 100000 w := by
  have hlt : w < 100000 ∧ Y w = M := by
    rcases hat with ⟨l, h, rfl⟩ | ⟨l, h, rfl⟩
    · have := (hj l).2.1; have := l.isLt; exact ⟨by omega, h⟩
    · have := l.isLt; exact ⟨by omega, h⟩
  refine ⟨Nat.zero_le _, hlt.1, fun c _ hc => ?_⟩
  rw [hlt.2]
  rcases lt_or_ge c 99840 with h | h
  · have hq := (hj ⟨c % 512, Nat.mod_lt _ (by decide)⟩).2.2 (c / 512) (Nat.zero_le _) (by omega)
    have hl := hM ⟨c % 512, Nat.mod_lt _ (by decide)⟩
    have hwl := hw ⟨c % 512, Nat.mod_lt _ (by decide)⟩
    simp only [Nat.div_add_mod] at hq hl hwl
    refine ⟨hq.1.trans hl, fun e => ?_⟩
    have e' := le_antisymm hq.1 (by rw [e]; exact hl)
    have := hq.2 e'
    have := hwl (e'.symm.trans e)
    have := Nat.div_add_mod c 512
    omega
  · have hl := hM' ⟨c - 99840, by omega⟩
    have hwl := hw' ⟨c - 99840, by omega⟩
    simp only [Nat.add_sub_cancel' h] at hl hwl
    exact ⟨hl, hwl⟩

end Cert.Proof.First

end
-- ==== Proof.Winner.lean ====
/- The kernel's choice of a row's winning column is the row's first largest place. -/
module

public import proofs.«01_k».proof.Proof.First
public import Idealize.ShloMosaic.Lib.Pointwise

@[expose] public section

set_option maxRecDepth 16384

noncomputable section

namespace Cert.Proof.First

open Idealize.ShloMosaic Cert.Proof.Chunk Cert.KernelIdeal Cert.KernelIdeal.Gen

/-- A fold of an operation that returns the better of its two operands is at least as good as everything folded, and is
    one of those values. -/
theorem fold_best {α β : Type} (op : α → α → α) [Std.Commutative op] [Std.Associative op] (R : α → α → Prop)
    (hrefl : ∀ a, R a a) (htrans : ∀ a b c, R a b → R b c → R a c) (hl : ∀ a b, R (op a b) a)
    (hsel : ∀ a b, op a b = a ∨ op a b = b) (S : Finset β) (b : α) (g : β → α) :
    (∀ i ∈ S, R (S.fold op b g) (g i)) ∧ (S.fold op b g = b ∨ ∃ i ∈ S, S.fold op b g = g i) := by
  have hr : ∀ a b, R (op a b) b := fun a b => by rw [Std.Commutative.comm (op := op)]; exact hl b a
  induction S using Finset.cons_induction with
  | empty => exact ⟨fun i hi => absurd hi (Finset.notMem_empty i), .inl rfl⟩
  | cons a S ha ih =>
    rw [Finset.fold_cons]
    refine ⟨fun i hi => ?_, ?_⟩
    · rcases Finset.mem_cons.1 hi with rfl | hi
      · exact hl _ _
      · exact htrans _ _ _ (hr _ _) (ih.1 i hi)
    · rcases hsel (g a) (S.fold op b g) with h | h <;> rw [h]
      · exact .inr ⟨a, Finset.mem_cons_self a S, rfl⟩
      · rcases ih.2 with e | ⟨i, hi, e⟩
        · exact .inl e
        · exact .inr ⟨i, Finset.mem_cons.2 (.inr hi), e⟩

/-- A nonempty row's maximum, folded from `-∞`, bounds the row and is reached in it. -/
theorem fold_max_row {n : ℕ} (hn : 0 < n) (g : Fin n → EReal) :
    (∀ i, g i ≤ Finset.univ.fold max ⊥ g) ∧ ∃ i, Finset.univ.fold max ⊥ g = g i := by
  obtain ⟨h1, h2⟩ := fold_best (max : EReal → EReal → EReal) (fun a b => b ≤ a) (fun _ => le_rfl)
    (fun _ _ _ h h' => h'.trans h) (fun a b => le_max_left a b) (fun a b => max_choice a b) Finset.univ ⊥ g
  refine ⟨fun i => h1 i (Finset.mem_univ i), ?_⟩
  rcases h2 with h | ⟨i, _, h⟩
  · refine ⟨⟨0, hn⟩, ?_⟩
    have := h1 ⟨0, hn⟩ (Finset.mem_univ _)
    rw [h] at this ⊢
    exact (le_bot_iff.1 this).symm
  · exact ⟨i, h⟩

/-- A row's signed minimum. -/
theorem fold_min_row {n : ℕ} (b : BitVec 32) (g : Fin n → BitVec 32) :
    (∀ i, (Finset.univ.fold IntOp.minsi b g).toInt ≤ (g i).toInt)
      ∧ (Finset.univ.fold IntOp.minsi b g = b ∨ ∃ i, Finset.univ.fold IntOp.minsi b g = g i) := by
  obtain ⟨h1, h2⟩ := fold_best (IntOp.minsi : BitVec 32 → _ → _) (fun a b => a.toInt ≤ b.toInt) (fun _ => le_rfl)
    (fun _ _ _ h h' => h.trans h') (fun a b => minsi_le a b) (fun a b => minsi_sel a b) Finset.univ b g
  exact ⟨fun i => h1 i (Finset.mem_univ i), h2.imp_right fun ⟨i, _, h⟩ => ⟨i, h⟩⟩
where
  minsi_sel (a b : BitVec 32) : IntOp.minsi a b = a ∨ IntOp.minsi a b = b := by
    unfold IntOp.minsi; split <;> simp
  minsi_le (a b : BitVec 32) : (IntOp.minsi a b).toInt ≤ a.toInt := by
    unfold IntOp.minsi; split
    · exact le_rfl
    · next h => simp only [BitVec.slt, decide_eq_true_eq, BitVec.sle] at h; omega

theorem toInt_ofNat_small {n : ℕ} (h : n < 200000) : (BitVec.ofNat 32 n).toInt = n := by
  have e : (BitVec.ofNat 32 n).toNat = n := by simp; omega
  rw [BitVec.toInt_eq_toNat_of_lt (by rw [e]; omega), e]

theorem ofBits_neg_inf : Ideal.ofBits .f32 0xFF800000#32 = ⊥ := by
  simp [Ideal.ofBits, Ideal.ieee]

/-- The kernel's choice is the row's first largest place. -/
theorem winner_first {Y : ℕ → EReal} (p : FVec Ideal S16x512 .f32 × IVec S16x512 32) (z : FVec Ideal S16x160 .f32)
    (r : Fin 16) (hp : ∀ l : Fin 512, Holds (fun c => Y (512 * c + l.val)) 0 195 (p.1 (ix2 r l)) (p.2 (ix2 r l)))
    (hz : ∀ l : Fin 160, z (ix2 r l) = Y (99840 + l.val)) :
    ∃ w, IsFirst Y 0 100000 w ∧ winner p z (ix2 r 0) = BitVec.ofNat 32 w := by
  choose j hj hv hi using hp
  have hjl : ∀ l : Fin 512, 512 * j l + l.val < 99840 := fun l => by have := (hj l).2.1; have := l.isLt; omega
  have hword : ∀ l : Fin 512, IntOp.addi (IntOp.muli (p.2 (ix2 r l)) 512#32) (BitVec.ofNat 32 l.val)
      = BitVec.ofNat 32 (512 * j l + l.val) := fun l => by
    rw [hi]
    show BitVec.ofNat 32 (j l) * BitVec.ofNat 32 512 + BitVec.ofNat 32 l.val = _
    rw [← BitVec.ofNat_mul, ← BitVec.ofNat_add, Nat.mul_comm]
  have hword' : ∀ l : Fin 160, IntOp.addi (BitVec.ofNat 32 l.val) 99840#32 = BitVec.ofNat 32 (99840 + l.val) := fun l => by
    show BitVec.ofNat 32 l.val + BitVec.ofNat 32 99840 = _
    rw [← BitVec.ofNat_add, Nat.add_comm]
  pointwise [winner, top]
  simp only [hv, hz, hword, hword', ofBits_neg_inf]
  obtain ⟨a1, l₁, a2⟩ := fold_max_row (n := 512) (by decide) (fun l => Y (512 * j l + l.val))
  obtain ⟨b1, l₂, b2⟩ := fold_max_row (n := 160) (by decide) (fun l => Y (99840 + l.val))
  generalize Finset.univ.fold max ⊥ (fun l : Fin 512 => Y (512 * j l + l.val)) = A at *
  generalize Finset.univ.fold max ⊥ (fun l : Fin 160 => Y (99840 + l.val)) = B at *
  generalize hM : max A B = M
  have hA : A ≤ M := hM ▸ le_max_left A B
  have hB : B ≤ M := hM ▸ le_max_right A B
  obtain ⟨c1, c2⟩ := fold_min_row (n := 512) 2147483647#32
    (fun l => if Y (512 * j l + l.val) = M then BitVec.ofNat 32 (512 * j l + l.val) else 2147483647#32)
  obtain ⟨d1, d2⟩ := fold_min_row (n := 160) 2147483647#32
    (fun l => if Y (99840 + l.val) = M then BitVec.ofNat 32 (99840 + l.val) else 2147483647#32)
  generalize Finset.univ.fold IntOp.minsi 2147483647#32
    (fun l : Fin 512 => if Y (512 * j l + l.val) = M then BitVec.ofNat 32 (512 * j l + l.val) else 2147483647#32) = C at *
  generalize Finset.univ.fold IntOp.minsi 2147483647#32
    (fun l : Fin 160 => if Y (99840 + l.val) = M then BitVec.ofNat 32 (99840 + l.val) else 2147483647#32) = D at *
  have hle : (IntOp.minsi C D).toInt ≤ C.toInt := fold_min_row.minsi_le C D
  have hle' : (IntOp.minsi C D).toInt ≤ D.toInt := by
    rw [Std.Commutative.comm (op := (IntOp.minsi : BitVec 32 → _ → _))]; exact fold_min_row.minsi_le D C
  have hC : ∀ l, Y (512 * j l + l.val) = M → (IntOp.minsi C D).toInt ≤ (512 * j l + l.val : ℕ) := fun l h => by
    have := c1 l; rw [if_pos h, toInt_ofNat_small (by have := hjl l; omega)] at this; exact hle.trans this
  have hD : ∀ l : Fin 160, Y (99840 + l.val) = M → (IntOp.minsi C D).toInt ≤ (99840 + l.val : ℕ) := fun l h => by
    have := d1 l; rw [if_pos h, toInt_ofNat_small (by have := l.isLt; omega)] at this; exact hle'.trans this
  have hsmall : (IntOp.minsi C D).toInt < 100000 := by
    rcases max_choice A B with h | h
    · have := hC l₁ (by rw [← hM, h, a2]); have := hjl l₁; omega
    · have := hD l₂ (by rw [← hM, h, b2]); have := l₂.isLt; omega
  have hbig : IntOp.minsi C D ≠ 2147483647#32 := fun h => by
    rw [h] at hsmall; exact absurd hsmall (by decide)
  have hat : (∃ l, Y (512 * j l + l.val) = M ∧ IntOp.minsi C D = BitVec.ofNat 32 (512 * j l + l.val))
      ∨ ∃ l : Fin 160, Y (99840 + l.val) = M ∧ IntOp.minsi C D = BitVec.ofNat 32 (99840 + l.val) := by
    rcases fold_min_row.minsi_sel C D with h | h
    · left
      rw [h] at hbig ⊢
      rcases c2 with e | ⟨l, e⟩
      · exact absurd e hbig
      · by_cases hl : Y (512 * j l + l.val) = M
        · exact ⟨l, hl, by rw [e, if_pos hl]⟩
        · rw [if_neg hl] at e; exact absurd e hbig
    · right
      rw [h] at hbig ⊢
      rcases d2 with e | ⟨l, e⟩
      · exact absurd e hbig
      · by_cases hl : Y (99840 + l.val) = M
        · exact ⟨l, hl, by rw [e, if_pos hl]⟩
        · rw [if_neg hl] at e; exact absurd e hbig
  obtain ⟨w, hw, hwat, hwlt⟩ : ∃ w : ℕ, IntOp.minsi C D = BitVec.ofNat 32 w ∧
      ((∃ l, Y (512 * j l + l.val) = M ∧ w = 512 * j l + l.val) ∨ ∃ l : Fin 160, Y (99840 + l.val) = M ∧ w = 99840 + l.val)
      ∧ w < 100000 := by
    rcases hat with ⟨l, h, e⟩ | ⟨l, h, e⟩
    · exact ⟨_, e, .inl ⟨l, h, rfl⟩, by have := hjl l; omega⟩
    · exact ⟨_, e, .inr ⟨l, h, rfl⟩, by have := l.isLt; omega⟩
  rw [hw, toInt_ofNat_small (by omega)] at hC hD
  exact ⟨w, isFirst_of_lanes hj (fun l => (a1 l).trans hA) (fun l => (b1 l).trans hB)
    (fun l h => by exact_mod_cast hC l h) (fun l h => by exact_mod_cast hD l h) hwat, hw⟩

end Cert.Proof.First

end
-- ==== Proof.RefPick.lean ====
/- The reference's argmax is each row's first largest place, and its one-hot rows. -/
module

public import Idealize.ShloMosaic.Lib.Pointwise
public import proofs.«01_k».proof.Proof.RefMain
public import proofs.«01_k».proof.Proof.Winner

@[expose] public section

set_option maxRecDepth 16384

noncomputable section

namespace Cert.Proof.RefPick

open Idealize.ShloMosaic Idealize.ShloMosaic.StableHlo Idealize.SL.Sem Cert.ReferenceIdeal Cert.Proof.Line Cert.Proof.RefLines
open Cert.Proof.First
open Facts₀

/-- `a` comes before `b`: a larger value, or the same value at a smaller place. -/
def Before (a b : EReal × BitVec 32) : Prop := b.1 < a.1 ∨ (a.1 = b.1 ∧ a.2.toInt < b.2.toInt)

/-- `a` is at least as good as `b`. -/
def Good (a b : EReal × BitVec 32) : Prop := b.1 < a.1 ∨ (a.1 = b.1 ∧ a.2.toInt ≤ b.2.toInt)

theorem Before.good {a b : EReal × BitVec 32} (h : Before a b) : Good a b := h.imp_right fun h => ⟨h.1, h.2.le⟩

theorem good_refl (a : EReal × BitVec 32) : Good a a := .inr ⟨rfl, le_rfl⟩

theorem Good.trans {a b c : EReal × BitVec 32} (h : Good a b) (h' : Good b c) : Good a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem good_of_not_before {a b : EReal × BitVec 32} (h : ¬ Before a b) : Good b a := by
  unfold Before at h
  push Not at h
  rcases h.1.lt_or_eq with h' | h'
  · exact .inl h'
  · exact .inr ⟨h'.symm, h.2 h'⟩

open Classical in
/-- The reducer keeps the pair that comes before the other. -/
theorem reducer_eq (a b : EReal × BitVec 32) :
    reducer_argmax_f32_i32 (F := Ideal) a b = if Before a b then a else b := by
  obtain ⟨v, i⟩ := a
  obtain ⟨v', i'⟩ := b
  have hs : IntOp.cmpi .slt i i' = BitVec.ofBool (decide (i.toInt < i'.toInt)) := by
    show BitVec.ofBool (i.slt i') = _
    rw [BitVec.slt]
  have ho : (FloatOps.cmpf (F := Ideal) (φ := .f32) .ogt v v') = BitVec.ofBool (decide (v' < v)) := rfl
  have hu : (FloatOps.cmpf (F := Ideal) (φ := .f32) .une v v) = 0#1 := by
    show BitVec.ofBool (decide (v ≠ v)) = _
    simp
  have he : (FloatOps.cmpf (F := Ideal) (φ := .f32) .oeq v v') = BitVec.ofBool (decide (v = v')) := rfl
  unfold reducer_argmax_f32_i32
  simp only [hs, ho, hu, he]
  unfold Before
  rcases lt_trichotomy v v' with h | h | h
  · simp [h, h.not_gt, h.ne, Scalar.select, IntOp.ori, IntOp.andi]
  · subst h
    by_cases h : i.toInt < i'.toInt
    · simp [h, Scalar.select, IntOp.ori, IntOp.andi]
    · simp [h, Scalar.select, IntOp.ori, IntOp.andi]
  · simp [h, h.not_gt, h.ne', Scalar.select, IntOp.ori, IntOp.andi]

/-- A fold of the reducer ends at a pair it met that is as good as every pair it met. -/
theorem fold_good (L : List (EReal × BitVec 32)) : ∀ a : EReal × BitVec 32,
    (L.foldl (reducer_argmax_f32_i32 (F := Ideal)) a = a ∨ L.foldl (reducer_argmax_f32_i32 (F := Ideal)) a ∈ L)
      ∧ Good (L.foldl (reducer_argmax_f32_i32 (F := Ideal)) a) a
      ∧ ∀ b ∈ L, Good (L.foldl (reducer_argmax_f32_i32 (F := Ideal)) a) b := by
  classical
  induction L with
  | nil => exact fun a => ⟨.inl rfl, good_refl a, fun b hb => absurd hb List.not_mem_nil⟩
  | cons x L ih =>
    intro a
    rw [List.foldl_cons, reducer_eq]
    by_cases h : Before a x
    · rw [if_pos h]
      obtain ⟨h1, h2, h3⟩ := ih a
      exact ⟨h1.imp_right fun h => .tail _ h, h2, List.forall_mem_cons.2 ⟨h2.trans h.good, h3⟩⟩
    · rw [if_neg h]
      obtain ⟨h1, h2, h3⟩ := ih x
      refine ⟨.inr ?_, h2.trans (good_of_not_before h), List.forall_mem_cons.2 ⟨h2, h3⟩⟩
      rcases h1 with h1 | h1
      · rw [h1]; exact .head _
      · exact .tail _ h1

/-- A row by column. -/
def line (e : FVec Ideal S128x100000 .f32) (p : Fin 128) (q : ℕ) : EReal :=
  if h : q < 100000 then e (ix2 p ⟨q, h⟩) else ⊥

/-- The pairs a row's argmax folds over are the row's, each with its column. -/
theorem mem_fiber (e : FVec Ideal S128x100000 .f32) (p : Fin 128) (b : EReal × BitVec 32) :
    b ∈ Host.argReduceFiber e (iotaInDim S128x100000 32 1) reducesTo_S128x100000_S128_d1 (ix1 p)
      ↔ ∃ q : Fin 100000, b = (e (ix2 p q), BitVec.ofNat 32 q.val) := by
  unfold Host.argReduceFiber
  rw [List.mem_map]
  constructor
  · rintro ⟨n, hn, rfl⟩
    rw [List.mem_filter] at hn
    have hd := of_decide_eq_true hn.2
    generalize S128x100000.rowMajor.symm n = i at *
    have h0 : i 0 = p := by
      have := congrArg (fun j : S128.Idx => (j 0).val) hd
      rw [Shape.ReducesTo.drop_apply_val] at this
      exact Fin.ext this
    refine ⟨i 1, Prod.ext ?_ rfl⟩
    show e i = _
    rw [← h0, ← eq_ix2 i]
  · rintro ⟨q, rfl⟩
    refine ⟨S128x100000.rowMajor (ix2 p q), List.mem_filter.2 ⟨List.mem_finRange _, decide_eq_true ?_⟩, ?_⟩
    · rw [Equiv.symm_apply_apply]
      funext a
      match a with
      | 0 => exact Fin.ext (Shape.ReducesTo.drop_apply_val ..)
    · rw [Equiv.symm_apply_apply]; rfl

/-- A row's argmax is its first largest place. -/
theorem argReduce_first (e : FVec Ideal S128x100000 .f32) (p : Fin 128) :
    ∃ w, IsFirst (line e p) 0 100000 w ∧
      (Host.argReduce reducer_argmax_f32_i32 e (iotaInDim S128x100000 32 1) (constant S_ .f32 0xFF800000#32)
        (constantI S_ 32 0#32) reducesTo_S128x100000_S128_d1 h_S_ (ix1 p)).2 = BitVec.ofNat 32 w := by
  rw [Ideal.argReduce_eq_reduce2, Host.reduce2_eq_foldl_fiber]
  have hb : (constant (F := Ideal) S_ .f32 0xFF800000#32 (Shape.Idx.first h_S_), constantI S_ 32 0#32 (Shape.Idx.first h_S_))
      = ((⊥, 0#32) : EReal × BitVec 32) := Prod.ext ofBits_neg_inf rfl
  rw [hb]
  obtain ⟨h1, h2, h3⟩ := fold_good (Host.argReduceFiber e (iotaInDim S128x100000 32 1) reducesTo_S128x100000_S128_d1 (ix1 p)) (⊥, 0#32)
  generalize List.foldl (reducer_argmax_f32_i32 (F := Ideal)) (⊥, 0#32) (Host.argReduceFiber e (iotaInDim S128x100000 32 1) reducesTo_S128x100000_S128_d1 (ix1 p)) = R at *
  have h4 : ∀ q : Fin 100000, Good R (e (ix2 p q), BitVec.ofNat 32 q.val) := fun q => h3 _ ((mem_fiber e p _).2 ⟨q, rfl⟩)
  have h5 : ∃ q : Fin 100000, R = (e (ix2 p q), BitVec.ofNat 32 q.val) := by
    rcases h1 with h1 | h1
    · refine ⟨0, ?_⟩
      have := h4 0
      rw [h1] at this ⊢
      rcases this with h | ⟨h, -⟩
      · exact absurd h not_lt_bot
      · exact Prod.ext h rfl
    · exact (mem_fiber e p _).1 h1
  obtain ⟨w, rfl⟩ := h5
  refine ⟨w.val, ⟨Nat.zero_le _, w.isLt, fun c _ hc => ?_⟩, rfl⟩
  have hg := h4 ⟨c, hc⟩
  unfold line
  rw [dif_pos hc, dif_pos w.isLt]
  unfold Good at hg
  dsimp only at hg
  rw [toInt_ofNat_small (by omega), toInt_ofNat_small (by omega)] at hg
  rcases hg with h | ⟨h, h'⟩
  · exact ⟨h.le, fun h' => absurd h' h.ne⟩
  · exact ⟨h.symm.le, fun _ => by exact_mod_cast h'⟩

variable {μ : Valuation τ sig (Elt Ideal)}

/-- What the argmax call leaves. -/
theorem argmax_settled {a₀ : TRef sig ⟨S128x100000, .f32⟩} {φ : fn_argmax.Bufs} (H : Settled μ (argmax a₀ φ).1) (p : Fin 128) :
    ∃ w, IsFirst (line (rd μ a₀) p) 0 100000 w ∧ (rd μ φ.v1_1 : IVec S128 32) (ix1 p) = BitVec.ofNat 32 w := by
  dsimp only [argmax] at H
  obtain ⟨e1, H⟩ := H.nullary
  obtain ⟨e2, H⟩ := H.nullary
  obtain ⟨e3, H⟩ := H.nullary
  obtain ⟨e5, -⟩ := H.tail.quaternary
  rw [e5, e1, e2, e3]
  exact argReduce_first _ p

/-- What the one-hot call leaves. -/
theorem oneHot_settled {a₀ : TRef sig ⟨S128, .i32⟩} {φ : fn_one_hot.Bufs} (H : Settled μ (oneHot a₀ φ).1) (p : Fin 128)
    (q : Fin 100000) : (rd μ φ.v5 : FVec Ideal S128x100000 .f32) (ix2 p q)
      = if (rd μ a₀ : IVec S128 32) (ix1 p) = BitVec.ofNat 32 q.val then (1 : EReal) else 0 := by
  dsimp only [oneHot] at H
  obtain ⟨e1, H⟩ := H.unary
  obtain ⟨e2, H⟩ := H.nullary
  obtain ⟨e3, H⟩ := H.unary
  obtain ⟨e4, H⟩ := H.unary
  obtain ⟨e5, H⟩ := H.binary
  obtain ⟨e6, -⟩ := H.unary
  rw [e6, e5, e4, e3, e2, e1]
  pointwise
  show (((IntOp.cmpi .eq ((rd μ a₀ : IVec S128 32) (ix1 p)) (BitVec.ofNat 32 q.val)).toNat : ℝ) : EReal) = _
  generalize (rd μ a₀ : IVec S128 32) (ix1 p) = a
  show (((BitVec.ofBool (a == BitVec.ofNat 32 q.val)).toNat : ℝ) : EReal) = _
  by_cases h : a = BitVec.ofNat 32 q.val
  · simp [h]
  · simp [h]

end Cert.Proof.RefPick

end
-- ==== Proof.Softmax.lean ====
/- The softmax of a row of extended reals, none `+∞` and not all `-∞`: real numbers, in the row's own order. -/
module

public import Idealize.ShloMosaic.PureOps.Ideal
public import proofs.«01_k».proof.Proof.Winner

@[expose] public section

noncomputable section

namespace Cert.Proof.Softmax

open Idealize.ShloMosaic Cert.Proof.First

/-- The exponential of an extended real below `+∞`, less a real: a nonnegative real. -/
def expReal (m : ℝ) (z : EReal) : ℝ := if z = ⊥ then 0 else Real.exp (z.toReal - m)

theorem exp_sub {z : EReal} (hz : z ≠ ⊤) (m : ℝ) : Ideal.exp (z - (m : EReal)) = (expReal m z : EReal) := by
  unfold expReal
  induction z using EReal.rec with
  | bot => rw [if_pos rfl, EReal.bot_sub]; rfl
  | top => exact absurd rfl hz
  | coe r => rw [if_neg (EReal.coe_ne_bot r), ← EReal.coe_sub]; rfl

theorem expReal_nonneg (m : ℝ) (z : EReal) : 0 ≤ expReal m z := by
  unfold expReal; split
  · exact le_rfl
  · exact (Real.exp_pos _).le

/-- It keeps the order. -/
theorem expReal_le {z z' : EReal} (hz : z ≠ ⊤) (hz' : z' ≠ ⊤) (m : ℝ) : expReal m z ≤ expReal m z' ↔ z ≤ z' := by
  unfold expReal
  induction z using EReal.rec with
  | bot =>
    rw [if_pos rfl]
    exact ⟨fun _ => bot_le, fun _ => expReal_nonneg m z'⟩
  | top => exact absurd rfl hz
  | coe r =>
    rw [if_neg (EReal.coe_ne_bot r)]
    induction z' using EReal.rec with
    | bot =>
      rw [if_pos rfl]
      exact ⟨fun h => absurd h (not_le.2 (Real.exp_pos _)), fun h => absurd (le_bot_iff.1 h) (EReal.coe_ne_bot r)⟩
    | top => exact absurd rfl hz'
    | coe r' =>
      rw [if_neg (EReal.coe_ne_bot r'), Real.exp_le_exp, EReal.coe_le_coe_iff, EReal.toReal_coe, EReal.toReal_coe]
      exact ⟨fun h => by linarith, fun h => by linarith⟩

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- The quotient of a real by a positive real. -/
theorem div_coe (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- Dividing by one changes nothing. -/
theorem div_one' (z : EReal) : Ideal.div z 1 = z := by
  unfold Ideal.div
  rw [if_neg one_ne_zero, ← EReal.coe_one, ← EReal.coe_inv, inv_one, EReal.coe_one, mul_one]

/-- The softmax of a row: real, and in the row's order. -/
theorem softmax_row {n : ℕ} (hn : 0 < n) (z e : Fin n → EReal) (T : EReal) (hT : T = max ⊥ (Finset.univ.fold max ⊥ z))
    (he : ∀ i, e i = Ideal.exp (z i - T)) (hz : ∀ i, z i ≠ ⊤) (hb : ∃ i, z i ≠ ⊥) :
    ∃ r : Fin n → ℝ, (∀ i, Ideal.div (e i) (∑ l, e l) = (r i : EReal)) ∧ ∀ i j, r i ≤ r j ↔ z i ≤ z j := by
  obtain ⟨h1, k, h2⟩ := fold_max_row hn z
  rw [max_eq_right bot_le] at hT
  rw [← hT] at h1 h2
  obtain ⟨i, hi⟩ := hb
  have hk : T ≠ ⊥ := fun h => hi (le_bot_iff.1 (h ▸ h1 i))
  have hk' : T ≠ ⊤ := h2 ▸ hz k
  lift T to ℝ using ⟨hk', hk⟩ with m
  have he' : ∀ i, e i = (expReal m (z i) : EReal) := fun i => (he i).trans (exp_sub (hz i) m)
  have hs : 0 < ∑ l, expReal m (z l) := by
    refine Finset.sum_pos' (fun l _ => expReal_nonneg m _) ⟨k, Finset.mem_univ k, ?_⟩
    unfold expReal
    rw [if_neg (h2 ▸ EReal.coe_ne_bot m)]
    exact Real.exp_pos _
  refine ⟨fun i => expReal m (z i) / ∑ l, expReal m (z l), fun i => ?_, fun i j => ?_⟩
  · simp only [he']
    rw [coe_sum, div_coe _ hs]
  · rw [div_le_div_iff_of_pos_right hs]
    exact expReal_le (hz i) (hz j) m

/-- A first largest place depends on the order only. -/
theorem isFirst_of_order {f g : ℕ → EReal} {b w : ℕ} (h : ∀ c d, c < b → d < b → (f c ≤ f d ↔ g c ≤ g d))
    (hw : IsFirst f 0 b w) : IsFirst g 0 b w := by
  obtain ⟨h1, h2, h3⟩ := hw
  refine ⟨h1, h2, fun c hc hc' => ⟨(h c w hc' h2).1 (h3 c hc hc').1, fun e => (h3 c hc hc').2 ?_⟩⟩
  exact le_antisymm ((h c w hc' h2).2 e.le) ((h w c h2 hc').2 e.symm.le)

end Cert.Proof.Softmax

end
-- ==== Proof.BlockValue.lean ====
/- What one grid point leaves in its block: the one-hot row of each row's first largest perturbed logit. -/
module

public import proofs.«01_k».proof.Proof.Noise
public import proofs.«01_k».proof.Proof.Winner

@[expose] public section

set_option maxRecDepth 65536

noncomputable section

namespace Cert.Proof.BlockValue

open Idealize.ShloMosaic Idealize.ShloMosaic.TcCoe Idealize.SL.Sem Cert.KernelIdeal Cert.KernelIdeal.Gen
open Cert.Proof.Chunk Cert.Proof.Noise Cert.Proof.First Cert.Proof.Cipher

variable (i : grid0.Coords) (arg1 : Memref sig .tc .vmem S16x100000 .f32) (harg1 : arg1.IsWhole)
  (x0 : Vec Ideal S16x100000 .f32)

/-- A block row's perturbed logits, by column. -/
def rowOf (r : Fin 16) (q : ℕ) : EReal :=
  if h : q < 100000 then
    x0 (ix2 r ⟨q, h⟩) + gumbel (bitsAt (BitVec.ofNat 32 ((16 * (i 0).val + r.val) * 100000 + q)))
  else ⊥

/-- A load of part of the block reads the block there. -/
theorem load_apply {n : ℕ} (off : Fin 2 → ℕ) (b : ℕ) (h0 : off 0 = 0) (h1 : off 1 = b)
    (inb : ∀ a, off a + (![16, n] : Fin 2 → ℕ) a ≤ S16x100000.size a) (r : Fin 16) (l : Fin n) (h : b + l.val < 100000) :
    View.readAt (Elt Ideal) arg1.view (Rect.unit (s := S16x100000) off (![16, n] : Fin 2 → ℕ) inb).toLoadRect
      (harg1.unread x0) (ix2 r l) = x0 (ix2 r ⟨b + l.val, h⟩) := by
  rw [View.readAt_eq_ld, harg1.read_unread]
  show x0 _ = x0 _
  congr 1
  funext a
  match a with
  | 0 => apply Fin.ext; show off 0 + _ = _; rw [h0]; exact (Nat.zero_add _).trans (Nat.one_mul _)
  | 1 => apply Fin.ext; show off 1 + _ = _; rw [h1]; exact congrArg (b + ·) (Nat.one_mul _)

theorem pay_apply (r : Fin 16) (l : Fin 512) :
    k0_pay1048 i (ix2 r l) = BitVec.ofNat 32 ((16 * (i 0).val + r.val) * 100000 + l.val) + 3453687069#32 := by
  pointwise [k0_pay1048, k0_pay1047]
  show BitVec.ofNat 32 l.val + ((BitVec.ofNat 32 r.val + BitVec.ofNat 32 (i 0).val * BitVec.ofNat 32 16)
    * BitVec.ofNat 32 100000 + 3453687069#32) = _
  rw [← BitVec.ofNat_mul, ← BitVec.ofNat_add, ← BitVec.ofNat_mul, ← BitVec.add_assoc, ← BitVec.ofNat_add]
  exact congrArg (fun n : ℕ => BitVec.ofNat 32 n + 3453687069#32) (by ring)

/-- A full chunk's perturbed logits. -/
theorem full_apply (x : IVec S16x512 32) (v : FVec Ideal S16x512 .f32) (b : ℕ) (r : Fin 16) (l : Fin 512)
    (hb : b + l.val < 100000) (hx : x (ix2 r l) = k0_pay1048 i (ix2 r l) + BitVec.ofNat 32 b)
    (hv : v (ix2 r l) = x0 (ix2 r ⟨b + l.val, hb⟩)) :
    perturbed (F := Ideal) eps x v (ix2 r l) = rowOf i x0 r (b + l.val) := by
  rw [perturbed_at x v (ix2 r l) (BitVec.ofNat 32 ((16 * (i 0).val + r.val) * 100000 + (b + l.val))), hv, rowOf, dif_pos hb]
  rw [hx, pay_apply, BitVec.add_assoc, BitVec.add_comm 3453687069#32, ← BitVec.add_assoc, ← BitVec.ofNat_add]
  exact congrArg (fun n : ℕ => BitVec.ofNat 32 n + 3453687069#32) (by ring)

theorem chunkNo_eq (k : Fin k0_t1_loop.trips) (r : Fin 24) : chunkNo k r = BitVec.ofNat 32 (24 * k.val + r.val) := by
  show BitVec.ofNat 32 24 * (0#32 + BitVec.ofNat 32 k.val * 1#32) + BitVec.ofNat 32 r.val = _
  rw [BitVec.zero_add, BitVec.mul_one, ← BitVec.ofNat_mul, ← BitVec.ofNat_add]

theorem trips_eq : k0_t1_loop.trips = 8 := by decide

theorem off_eq : ∀ (k : Fin k0_t1_loop.trips) (r : Fin 24),
    k0_off1 k (BitVec.ofNat 32 r.val) 0 = 0 ∧ k0_off1 k (BitVec.ofNat 32 r.val) 1 = 512 * (24 * k.val + r.val) := by
  decide +kernel

/-- A lane's candidate in a chunk of the loop is its perturbed logit there. -/
theorem chunk_holds (k : Fin k0_t1_loop.trips) (r' : Fin 24) (r : Fin 16) (l : Fin 512) :
    Holds (fun c => rowOf i x0 r (512 * c + l.val)) (24 * k.val + r'.val) (24 * k.val + r'.val + 1)
      ((chunk (F := Ideal) i arg1 eps (harg1.unread x0) k r').1 (ix2 r l))
      ((chunk (F := Ideal) i arg1 eps (harg1.unread x0) k r').2 (ix2 r l)) := by
  have hk : k.val < 8 := lt_of_lt_of_eq k.isLt trips_eq
  have hl := l.isLt
  have hr := r'.isLt
  refine ⟨_, isFirst_single _ _, ?_, chunkNo_eq k r'⟩
  refine full_apply i x0 _ _ (512 * (24 * k.val + r'.val)) r l (by omega) ?_ ?_
  · show _ + chunkNo k r' * BitVec.ofNat 32 512 = _
    rw [chunkNo_eq, ← BitVec.ofNat_mul, Nat.mul_comm]
  · exact load_apply arg1 harg1 x0 _ _ (off_eq k r').1 (off_eq k r').2 _ r l _

/-- A lane's candidate in a chunk after the loop. -/
theorem late_holds (n : ℕ) (hn : n < 195) (off : ℕ) (ho : off = 512 * n)
    (inb : ∀ a, (![0, off] : Fin 2 → ℕ) a + S16x512.size a ≤ S16x100000.size a) (r : Fin 16) (l : Fin 512) :
    Holds (fun c => rowOf i x0 r (512 * c + l.val)) n (n + 1)
      ((lateChunk (F := Ideal) i arg1 (harg1.unread x0) off inb (BitVec.ofNat 32 off) (BitVec.ofNat 32 n)).1 (ix2 r l))
      ((lateChunk (F := Ideal) i arg1 (harg1.unread x0) off inb (BitVec.ofNat 32 off) (BitVec.ofNat 32 n)).2 (ix2 r l)) := by
  have hl := l.isLt
  subst ho
  exact ⟨_, isFirst_single _ _, full_apply i x0 _ _ (512 * n) r l (by omega) rfl
    (load_apply arg1 harg1 x0 _ _ rfl rfl _ r l _), rfl⟩

/-- The candidates carried after the first `n + 1` trips. -/
theorem carried_holds (r : Fin 16) (l : Fin 512) (n : ℕ) (hn : n < 8) :
    Holds (fun c => rowOf i x0 r (512 * c + l.val)) 0 (24 * (n + 1))
      ((carried (F := Ideal) i arg1 (harg1.unread x0) (n + 1)).1 (ix2 r l))
      ((carried (F := Ideal) i arg1 (harg1.unread x0) (n + 1)).2 (ix2 r l)) := by
  have hstep : ∀ n (h : n < k0_t1_loop.trips), Holds (fun c => rowOf i x0 r (512 * c + l.val)) (24 * n) (24 * (n + 1))
      ((merge24 (chunk (F := Ideal) i arg1 eps (harg1.unread x0) ⟨n, h⟩)).1 (ix2 r l))
      ((merge24 (chunk (F := Ideal) i arg1 eps (harg1.unread x0) ⟨n, h⟩)).2 (ix2 r l)) := fun n h =>
    holds_merge24 fun r' => chunk_holds i arg1 harg1 x0 ⟨n, h⟩ r' r l
  have ht : n < k0_t1_loop.trips := by rw [trips_eq]; exact hn
  rw [carried, dif_pos ht]
  induction n with
  | zero => exact Holds.merge_start (ofBits_neg_inf) rfl (hstep 0 ht)
  | succ n ih =>
    have ht' : n < k0_t1_loop.trips := by omega
    refine Holds.merge ?_ (hstep (n + 1) ht)
    rw [carried, dif_pos ht']
    exact ih (by omega) ht'

/-- The candidates after every full chunk. -/
theorem lanes_holds (r : Fin 16) (l : Fin 512) :
    Holds (fun c => rowOf i x0 r (512 * c + l.val)) 0 195
      ((lanes (F := Ideal) i arg1 (harg1.unread x0) (carried i arg1 (harg1.unread x0) 8)).1 (ix2 r l))
      ((lanes (F := Ideal) i arg1 (harg1.unread x0) (carried i arg1 (harg1.unread x0) 8)).2 (ix2 r l)) :=
  Holds.merge (Holds.merge (Holds.merge (carried_holds i arg1 harg1 x0 r l 7 (by decide))
    (late_holds i arg1 harg1 x0 192 (by decide) 98304 (by decide) _ r l))
    (late_holds i arg1 harg1 x0 193 (by decide) 98816 (by decide) _ r l))
    (late_holds i arg1 harg1 x0 194 (by decide) 99328 (by decide) _ r l)

/-- The tail's perturbed logits. -/
theorem tail_apply (r : Fin 16) (l : Fin 160) :
    tail (F := Ideal) i arg1 (harg1.unread x0) (ix2 r l) = rowOf i x0 r (99840 + l.val) := by
  have hl := l.isLt
  have hb : 99840 + l.val < 100000 := by omega
  unfold tail
  rw [perturbed_at _ _ (ix2 r l) (BitVec.ofNat 32 ((16 * (i 0).val + r.val) * 100000 + (99840 + l.val))),
    load_apply arg1 harg1 x0 _ 99840 rfl rfl _ r l hb, rowOf, dif_pos hb]
  pointwise [k0_pay1047]
  show BitVec.ofNat 32 l.val + ((BitVec.ofNat 32 r.val + BitVec.ofNat 32 (i 0).val * BitVec.ofNat 32 16)
    * BitVec.ofNat 32 100000 + 3453687069#32) + BitVec.ofNat 32 99840 = _
  rw [← BitVec.ofNat_mul, ← BitVec.ofNat_add, ← BitVec.ofNat_mul, ← BitVec.add_assoc, ← BitVec.ofNat_add,
    BitVec.add_assoc, BitVec.add_comm 3453687069#32, ← BitVec.add_assoc, ← BitVec.ofNat_add]
  exact congrArg (fun n : ℕ => BitVec.ofNat 32 n + 3453687069#32) (by ring)

/-- A row's winning column. -/
theorem winner_row (r : Fin 16) : ∃ w, IsFirst (rowOf i x0 r) 0 100000 w ∧
    winner (lanes (F := Ideal) i arg1 (harg1.unread x0) (carried i arg1 (harg1.unread x0) 8))
      (tail (F := Ideal) i arg1 (harg1.unread x0)) (ix2 r 0) = BitVec.ofNat 32 w :=
  winner_first _ _ r (lanes_holds i arg1 harg1 x0 r) (tail_apply i arg1 harg1 x0 r)

end Cert.Proof.BlockValue

end
-- ==== Proof.BlockOut.lean ====
/- The block one grid point writes: every element is one at its row's first largest place and zero elsewhere. -/
module

public import proofs.«01_k».proof.Proof.BlockValue
public import Idealize.ShloMosaic.Lib.Pipeline.ValueKit.Tiles

@[expose] public section

set_option maxRecDepth 65536

noncomputable section

namespace Cert.Proof.BlockValue

open Idealize.ShloMosaic Idealize.ShloMosaic.TcCoe Idealize.SL.Sem Cert.KernelIdeal Cert.KernelIdeal.Gen
open Cert.Proof.Chunk Cert.Proof.Noise Cert.Proof.First Cert.Proof.Cipher

/-- Whether a lane of a piece is the winning column, over words. -/
theorem eq_word {l b w : ℕ} (hl : b + l < 200000) (hw : w < 200000) :
    (BitVec.ofNat 32 l = BitVec.ofNat 32 w - BitVec.ofNat 32 b) ↔ b + l = w := by
  constructor
  · intro h
    have h' : BitVec.ofNat 32 (b + l) = BitVec.ofNat 32 w := by
      rw [BitVec.ofNat_add, h, BitVec.add_comm, BitVec.sub_add_cancel]
    have := congrArg BitVec.toNat h'
    rw [BitVec.toNat_ofNat, BitVec.toNat_ofNat, Nat.mod_eq_of_lt (by omega), Nat.mod_eq_of_lt (by omega)] at this
    exact this
  · rintro rfl
    rw [BitVec.ofNat_add, BitVec.add_comm, BitVec.add_sub_cancel]

/-- The bit of an equation, as a float. -/
theorem float_eq (x y : BitVec 32) : FloatOps.sitofp (F := Ideal) .f32 ((IntOp.cmpi .eq x y).setWidth 32)
    = if x = y then (1 : EReal) else 0 := by
  show (((((BitVec.ofBool (x == y)).setWidth 32).toInt : ℤ) : ℝ) : EReal) = _
  by_cases h : x = y
  · simp [h]
  · have : (x == y) = false := by simpa using h
    simp [h, this]

variable {ix : IVec S16x1 32} {w : Fin 16 → ℕ}

theorem hot_apply (b : ℕ) (r : Fin 16) (l : Fin 512) (hix : ix (ix2 r 0) = BitVec.ofNat 32 (w r)) (hw : w r < 100000)
    (hb : b < 100000) : hot (F := Ideal) ix (BitVec.ofNat 32 b) (ix2 r l) = if b + l.val = w r then (1 : EReal) else 0 := by
  have hl := l.isLt
  pointwise [hot]
  rw [float_eq, hix]
  exact if_congr (eq_word (by omega) (by omega)) rfl rfl

theorem hotTail_apply (r : Fin 16) (l : Fin 160) (hix : ix (ix2 r 0) = BitVec.ofNat 32 (w r)) (hw : w r < 100000) :
    hotTail (F := Ideal) ix (ix2 r l) = if 99840 + l.val = w r then (1 : EReal) else 0 := by
  have hl := l.isLt
  pointwise [hotTail]
  rw [float_eq, hix]
  exact if_congr (eq_word (b := 99840) (by omega) (by omega)) rfl rfl

/-- A piece that starts at column `b` of every row and holds the one-hot rows agrees with them at each of its indices. -/
theorem piece_at {n b : ℕ} (inb : ∀ a, (![0, b] : Fin 2 → ℕ) a + (![16, n] : Fin 2 → ℕ) a ≤ S16x100000.size a)
    (v : FVec Ideal ⟨2, ![16, n]⟩ .f32)
    (hv : ∀ (r : Fin 16) (l : Fin n), v (ix2 r l) = if b + l.val = w r then (1 : EReal) else 0) (y : S16x100000.Idx)
    (x : (⟨2, ![16, n]⟩ : Shape).Idx)
    (hx : (Rect.unit (s := S16x100000) ![0, b] (![16, n] : Fin 2 → ℕ) inb).emb x = y) :
    v x = if (y 1).val = w (y 0) then (1 : EReal) else 0 := by
  have h0 : (y 0) = (x 0) := by
    subst hx; apply Fin.ext; exact (Nat.zero_add _).trans (Nat.one_mul _)
  have h1 : (y 1).val = b + (x 1).val := by
    subst hx; exact congrArg (b + ·) (Nat.one_mul _)
  rw [h1, h0, eq_ix2 x]
  exact hv _ _

/-- The full chunks' pieces agree with the one-hot rows and hold every column before the tail. -/
theorem pieces_allAt (hix : ∀ r, ix (ix2 r 0) = BitVec.ofNat 32 (w r)) (hw : ∀ r, w r < 100000) (y : S16x100000.Idx) :
    ∀ n (h : n ≤ 195), View.AllAt (pieces (F := Ideal) ix n h) y (if (y 1).val = w (y 0) then (1 : EReal) else 0)
      ∧ ((y 1).val < 512 * n → ∃ p ∈ pieces (F := Ideal) ix n h, y ∈ p.1.set)
  | 0, _ => ⟨fun p hp => absurd hp List.not_mem_nil, fun h => absurd h (Nat.not_lt_zero _)⟩
  | n + 1, h => by
    obtain ⟨h1, h2⟩ := pieces_allAt hix hw y n (Nat.le_of_succ_le h)
    refine ⟨fun p hp x hx => ?_, fun hy => ?_⟩
    · rcases List.mem_cons.1 hp with rfl | hp
      · exact piece_at (inb_full n h) _ (fun r l => hot_apply (512 * n) r l (hix r) (hw r) (by omega)) y x hx
      · exact h1 p hp x hx
    · by_cases hn : (y 1).val < 512 * n
      · obtain ⟨p, hp, hy⟩ := h2 hn
        exact ⟨p, .tail _ hp, hy⟩
      · refine ⟨_, .head _, ?_⟩
        rw [Rect.mem_set_unit]
        intro a
        match a with
        | 0 => exact ⟨Nat.zero_le _, lt_of_lt_of_eq (y 0).isLt (Nat.zero_add 16).symm⟩
        | 1 => exact ⟨not_lt.1 hn, by show (y 1).val < 512 * n + 512; omega⟩

/-- All the pieces leave the one-hot rows. -/
theorem allPieces_canon (hix : ∀ r, ix (ix2 r 0) = BitVec.ofNat 32 (w r)) (hw : ∀ r, w r < 100000) (y : S16x100000.Idx) :
    View.canon (allPieces (F := Ideal) ix) y = if (y 1).val = w (y 0) then (1 : EReal) else 0 := by
  obtain ⟨h1, h2⟩ := pieces_allAt hix hw y 195 le_rfl
  refine View.canon_eq_of_allAt _ y _ ?_ fun p hp x hx => ?_
  · by_cases hn : (y 1).val < 512 * 195
    · obtain ⟨p, hp, hy⟩ := h2 hn
      exact ⟨p, .tail _ hp, hy⟩
    · refine ⟨_, .head _, ?_⟩
      rw [Rect.mem_set_unit]
      intro a
      match a with
      | 0 => exact ⟨Nat.zero_le _, lt_of_lt_of_eq (y 0).isLt (Nat.zero_add 16).symm⟩
      | 1 => exact ⟨by show 99840 ≤ (y 1).val; omega, lt_of_lt_of_eq (y 1).isLt rfl⟩
  · rcases List.mem_cons.1 hp with rfl | hp
    · exact piece_at inb_S16x100000_S16x160_0_99840 _ (fun r l => hotTail_apply r l (hix r) (hw r)) y x hx
    · exact h1 p hp x hx

/-- What a grid point writes: each row is one at its first largest place and zero elsewhere. -/
theorem out_first (c : Dev nD) (i : grid0.Coords) (arg1 : Memref sig .tc .vmem S16x100000 .f32) (harg1 : arg1.IsWhole)
    (arg2 : Memref sig .tc .vmem S16x100000 .f32) (harg2 : arg2.IsWhole) (x0 : Vec Ideal S16x100000 .f32) (r : Fin 16) :
    ∃ w, IsFirst (rowOf i x0 r) 0 100000 w ∧ ∀ y : S16x100000.Idx, y 0 = r →
      out0_A_1 c i arg1 harg1 arg2 harg2 x0 y = if (y 1).val = w then (1 : EReal) else 0 := by
  choose w hw hix using winner_row i arg1 harg1 x0
  refine ⟨w r, hw r, fun y hy => ?_⟩
  unfold out0_A_1
  rw [run_pieces, View.read_writes_junk_eq_canon, loop_eq _ _ _ _ _ _ _ _ _ _ le_rfl,
    trips_eq, allPieces_canon hix (fun r => (hw r).2.1), hy]

end Cert.Proof.BlockValue

end
-- ==== Proof.Array.lean ====
/- The kernel's result array: the one-hot rows of the first largest perturbed logits. -/
module

public import proofs.«01_k».proof.Proof.BlockOut
public import Idealize.ShloMosaic.Lib.Pipeline.ValueKit

@[expose] public section

set_option maxRecDepth 16384

noncomputable section

namespace Cert.Proof.Array

open Idealize.ShloMosaic Idealize.ShloMosaic.TcCoe Idealize.SL.Sem Cert.KernelIdeal Cert.KernelIdeal.Gen Cert.KernelIdeal.Value
open Cert.Proof.BlockValue Cert.Proof.First Cert.Proof.Noise Cert.Proof.Cipher

/-- The perturbed logits of row `p`, by column. -/
def row (x : FVec Ideal S128x100000 .f32) (p : Fin 128) (q : ℕ) : EReal :=
  if h : q < 100000 then x (ix2 p ⟨q, h⟩) + gumbel (bitsAt (BitVec.ofNat 32 (p.val * 100000 + q))) else ⊥

open Classical in
/-- One at each row's first largest perturbed logit, zero elsewhere. -/
def sample (x : FVec Ideal S128x100000 .f32) : FVec Ideal S128x100000 .f32 := fun y =>
  if IsFirst (row x (y 0)) 0 100000 (y 1).val then (1 : EReal) else 0

/-- A row that is one at its first largest place is the sample's. -/
theorem sample_eq {x : FVec Ideal S128x100000 .f32} (y : S128x100000.Idx) {w : ℕ}
    (h : IsFirst (row x (y 0)) 0 100000 w) : sample x y = if (y 1).val = w then (1 : EReal) else 0 := by
  classical
  unfold sample
  refine if_congr ⟨fun h' => h'.unique h, fun h' => ?_⟩ rfl rfl
  rw [h']; exact h

variable (m : (ℓ : Loc nD τ sig) → Buf (Elt Ideal) ℓ)

/-- The argument's block at point `t`: the rows from `16 * t`. -/
theorem index_in : ∀ t : Fin cfg0.N, win0_0.index t = ![(grid0.coords t 0).val, 0] :=
  (by decide +kernel : ∀ t : Fin grid0.N, _)

/-- The result's block at point `t`: the rows from `16 * t`. -/
theorem index_out : ∀ t : Fin cfg0.N, win0_1.index t = ![(grid0.coords t 0).val, 0] :=
  (by decide +kernel : ∀ t : Fin grid0.N, _)

/-- The block's element at `(r, q)` is the argument's at `(16 * t + r, q)`. -/
theorem block_at (c : Dev nD) (t : Fin cfg0.N) (r : Fin 16) (q : Fin 100000) (p : Fin 128)
    (hp : p.val = 16 * (grid0.coords t 0).val + r.val) :
    (iblk m c 0 t : Vec Ideal S16x100000 .f32) (ix2 r q) = (m ((c : Thread nD τ).loc main_arg0) : FVec Ideal S128x100000 .f32) (ix2 p q) := by
  have e0 : (((win0_0.blk t).view.emb (ix2 r q : S16x100000.Idx) 0 : Fin _) : ℕ) = 16 * (grid0.coords t 0).val + r.val := by
    blk_simp [index_in t]; exact congrArg (· + r.val) (Nat.mul_comm _ _)
  have e1 : (((win0_0.blk t).view.emb (ix2 r q : S16x100000.Idx) 1 : Fin _) : ℕ) = q.val := by
    blk_simp [index_in t]
  blk_simp [iblk, V]
  refine congrArg (m ((c : Thread nD τ).loc main_arg0)) ?_
  funext a
  match a with
  | 0 => exact Fin.ext (e0.trans hp.symm)
  | 1 => exact Fin.ext e1

/-- A block's row of perturbed logits is the argument's. -/
theorem rowOf_eq (c : Dev nD) (t : Fin cfg0.N) (r : Fin 16) (p : Fin 128)
    (hp : p.val = 16 * (grid0.coords t 0).val + r.val) :
    rowOf (grid0.coords t) (iblk m c 0 t) r = row (m ((c : Thread nD τ).loc main_arg0)) p := by
  funext q
  unfold rowOf row
  by_cases hq : q < 100000
  · rw [dif_pos hq, dif_pos hq, block_at m c t r ⟨q, hq⟩ p hp, hp]
  · rw [dif_neg hq, dif_neg hq]

/-- The kernel's result array is the sample of its argument. -/
theorem final_eq (c : Dev nD) :
    (dats m 0 c).arrAt 1 cfg0.N = sample (m ((c : Thread nD τ).loc main_arg0)) := by
  refine (dats m 0 c).arrAt_eq_of_covers 1 _ (by decide +kernel) fun t hf y => ?_
  blk_simp
  rw [after0_1]
  have e0 : (((win0_1.blk t).view.emb y 0 : Fin _) : ℕ) = 16 * (grid0.coords t 0).val + (y 0).val := by
    blk_simp [index_out t]; omega
  have e1 : (((win0_1.blk t).view.emb y 1 : Fin _) : ℕ) = (y 1).val := by
    blk_simp [index_out t]
  obtain ⟨w, hw, hv⟩ := out_first c (grid0.coords t) (ms0_0 t) (hs0_0 t) (ms0_1 t) (hs0_1 t) (iblk m c 0 t) (y 0)
  rw [rowOf_eq m c t (y 0) _ e0] at hw
  refine (hv y rfl).trans ?_
  rw [sample_eq _ hw, e1]

end Cert.Proof.Array

end
-- ==== Proof.RefValue.lean ====
/- The reference's result: with every row's largest logit finite, the one-hot rows of the first largest perturbed logits. -/
module

public import proofs.«01_k».proof.Proof.RefPick
public import proofs.«01_k».proof.Proof.Softmax
public import proofs.«01_k».proof.Proof.Array

@[expose] public section

set_option maxRecDepth 16384

noncomputable section

namespace Cert.Proof.RefValue

open Idealize.ShloMosaic Idealize.ShloMosaic.StableHlo Idealize.SL.Sem Cert.ReferenceIdeal Cert.Proof.Line Cert.Proof.RefLines
open Cert.Proof.RefCipher Cert.Proof.Cipher Cert.Proof.Noise Cert.Proof.RefNoise Cert.Proof.RefMain Cert.Proof.RefPick
open Cert.Proof.First Cert.Proof.Softmax

variable {μ : Valuation τ sig (Elt Ideal)}

/-- The reference's perturbed logits. -/
theorem noisy_at (T : Terms μ) (p : Fin 128) (q : Fin 100000) :
    noisy μ (ix2 p q) = logits μ (ix2 p q) + gumbel (bitsAt (BitVec.ofNat 32 (p.val * 100000 + q.val))) := by
  have s := T.start_eq
  obtain ⟨k0, k1⟩ := foldIn_settled (a₀ := .of main_v6) (a₁ := .of main_c_2)
    ((congrFun s (ix1 0)).trans startOf_at.1) ((congrFun s (ix1 1)).trans startOf_at.2) (fun i => congrFun T.word_eq i) T.foldIn
  have u := uniform_settled (a₀ := .of main_v7) k0 k1 (fun i => by rw [T.lo_eq]; pointwise) (fun i => by rw [T.hi_eq]; pointwise)
    T.uniform p q
  have u' : uniforms μ (ix2 p q) = mant (bitsAt (BitVec.ofNat 32 (p.val * 100000 + q.val))) - 1 := u
  rw [T.noisy_eq, noisyOf_at, u', div_one']
  rfl

/-- The reference's result. -/
theorem result_eq (T : Terms μ) (h : ∀ p : Fin 128, (∀ q, logits μ (ix2 p q) ≠ ⊤) ∧ ∃ q, logits μ (ix2 p q) ≠ ⊥) :
    result μ = Cert.Proof.Array.sample (logits μ) := by
  funext y
  obtain ⟨p, q, rfl⟩ : ∃ (p : Fin 128) (q : Fin 100000), y = ix2 p q := ⟨y 0, y 1, eq_ix2 y⟩
  have hz : ∀ q, noisy μ (ix2 p q) ≠ ⊤ := fun q => by
    obtain ⟨g, hg⟩ := gumbel_finite (bitsAt (BitVec.ofNat 32 (p.val * 100000 + q.val)))
    rw [noisy_at T, hg]
    exact EReal.add_ne_top ((h p).1 q) (EReal.coe_ne_top g)
  have hb : ∃ q, noisy μ (ix2 p q) ≠ ⊥ := by
    obtain ⟨q, hq⟩ := (h p).2
    obtain ⟨g, hg⟩ := gumbel_finite (bitsAt (BitVec.ofNat 32 (p.val * 100000 + q.val)))
    refine ⟨q, ?_⟩
    rw [noisy_at T, hg]
    exact fun e => (EReal.add_eq_bot_iff.1 e).elim hq (EReal.coe_ne_bot g)
  obtain ⟨r, hr, ho⟩ := softmax_row (n := 100000) (by decide) (fun l => noisy μ (ix2 p l))
    (fun l => expOf (noisy μ) (topOf (noisy μ)) (ix2 p l)) _ rfl (fun i => by
      rw [expOf_at, topOf_at, ofBits_neg_inf]) hz hb
  have hs : ∀ l, soft μ (ix2 p l) = (r l : EReal) := fun l => by
    rw [T.soft_eq, softOf_at]; exact hr l
  obtain ⟨w, hw, hi⟩ := argmax_settled T.argmax p
  have hp : place μ (ix1 p) = BitVec.ofNat 32 w := hi
  have hw' : IsFirst (Cert.Proof.Array.row (logits μ) p) 0 100000 w := by
    refine isFirst_of_order (fun c d hc hd => ?_) hw
    unfold line Cert.Proof.Array.row
    rw [dif_pos hc, dif_pos hd, dif_pos hc, dif_pos hd, ← noisy_at T p ⟨c, hc⟩, ← noisy_at T p ⟨d, hd⟩]
    show soft μ (ix2 p ⟨c, hc⟩) ≤ soft μ (ix2 p ⟨d, hd⟩) ↔ _
    rw [hs, hs, EReal.coe_le_coe_iff]
    exact ho _ _
  have hh : hot μ (ix2 p q) = if q.val = w then (1 : EReal) else 0 := by
    refine (oneHot_settled T.oneHot p q).trans (if_congr ?_ rfl rfl)
    rw [show (rd μ (.of main_v31 : TRef sig ⟨S128, .i32⟩) : IVec S128 32) (ix1 p) = BitVec.ofNat 32 w from hp]
    have := hw.2.1
    refine ⟨fun e => ?_, fun e => e ▸ rfl⟩
    have e := congrArg BitVec.toNat e
    simp only [BitVec.toNat_ofNat] at e
    omega
  rw [Cert.Proof.Array.sample_eq _ hw', T.result_eq]
  show hot μ (ix2 p q) - soft μ (ix2 p q) + soft μ (ix2 p q) = if q.val = w then (1 : EReal) else 0
  rw [hh, hs]
  split
  · rw [← EReal.coe_one, ← EReal.coe_sub, ← EReal.coe_add, sub_add_cancel]
  · rw [← EReal.coe_zero, ← EReal.coe_sub, ← EReal.coe_add, sub_add_cancel]

end Cert.Proof.RefValue

end
-- ==== Proof.Pre.lean ====
/- The precondition, read: in each row every logit is below `+∞` and some logit is above `-∞`. -/
module

public import Idealize.ShloMosaic.Lib.Pointwise
public import proofs.«01_k».proof.Pre_row_max_finite
public import proofs.«01_k».proof.Proof.Winner

@[expose] public section

set_option maxRecDepth 16384

noncomputable section

namespace Cert.Proof.Pre

open Idealize.ShloMosaic Cert.Pre_row_max_finite Cert.Proof.First

/-- The side conditions of the precondition's operations. -/
theorem facts : Cert.Pre_row_max_finite.Facts where
  reducesTo_S128x100000_S128_d1 := by decide
  h_S_ := by decide
  bcast_S_S128 := by decide

theorem ofBits_inf : Ideal.ofBits .f32 0x7F800000#32 = ⊤ := by
  simp [Ideal.ofBits, Ideal.ieee]

variable [Cert.Pre_row_max_finite.Facts]
open Facts

/-- The rows' maxima. -/
def topOf (x : FVec Ideal S128x100000 .f32) : FVec Ideal S128 .f32 :=
  Host.reduce FloatOps.maximumf x (constant S_ .f32 0xFF800000#32) reducesTo_S128x100000_S128_d1 h_S_

theorem topOf_at (x : FVec Ideal S128x100000 .f32) (p : Fin 128) :
    topOf x (ix1 p) = Finset.univ.fold max ⊥ fun q => x (ix2 p q) := by
  rw [← ofBits_neg_inf]
  pointwise [topOf]

/-- The test of the rows' maxima. -/
def testOf (t : FVec Ideal S128 .f32) : IVec S128 1 :=
  andi (cmpf .ogt t (broadcastInDim S128 ![] bcast_S_S128 (constant S_ .f32 0xFF800000#32)))
    (cmpf .olt t (broadcastInDim S128 ![] bcast_S_S128 (constant S_ .f32 0x7F800000#32)))

theorem fn_eq (x : FVec Ideal S128x100000 .f32) : fn (F := Ideal) x = testOf (topOf x) := by
  unfold fn testOf topOf; rfl

theorem testOf_at (t : FVec Ideal S128 .f32) (p : Fin 128) :
    testOf t (ix1 p) = BitVec.ofBool (decide (⊥ < t (ix1 p))) &&& BitVec.ofBool (decide (t (ix1 p) < ⊤)) := by
  rw [← ofBits_neg_inf, ← ofBits_inf]
  rfl

/-- The precondition at a row: the row's maximum is neither infinity. -/
theorem row_max (x : FVec Ideal S128x100000 .f32) (h : fn (F := Ideal) x = fun _ => 1#1) (p : Fin 128) :
    ⊥ < Finset.univ.fold max ⊥ (fun q => x (ix2 p q)) ∧ Finset.univ.fold max ⊥ (fun q => x (ix2 p q)) < ⊤ := by
  have e := congrFun ((fn_eq x).symm.trans h) (ix1 p)
  rw [testOf_at, topOf_at] at e
  generalize Finset.univ.fold max ⊥ (fun q => x (ix2 p q)) = M at e ⊢
  by_cases h1 : ⊥ < M <;> by_cases h2 : M < ⊤
  · exact ⟨h1, h2⟩
  · simp [h1, h2] at e
  · simp [h1, h2] at e
  · simp [h1, h2] at e

/-- In each row every logit is below `+∞` and some logit is above `-∞`. -/
theorem rows (x : FVec Ideal S128x100000 .f32) (h : fn (F := Ideal) x = fun _ => 1#1) (p : Fin 128) :
    (∀ q, x (ix2 p q) ≠ ⊤) ∧ ∃ q, x (ix2 p q) ≠ ⊥ := by
  obtain ⟨h1, h2⟩ := row_max x h p
  obtain ⟨a1, k, a2⟩ := fold_max_row (n := 100000) (by decide) (fun q => x (ix2 p q))
  exact ⟨fun q => ((a1 q).trans_lt h2).ne, k, fun e => h1.ne' (a2.trans e)⟩

end Cert.Proof.Pre

end
-- ==== Proof.Algebraic.lean ====
/- The kernel and the reference leave the same array: both leave the sample of the logits. -/
module

public import proofs.«01_k».proof.Defs
public import proofs.«01_k».proof.Proof.RefRun
public import proofs.«01_k».proof.Proof.RefValue
public import proofs.«01_k».proof.Proof.Pre

@[expose] public section

set_option maxRecDepth 16384

noncomputable section

namespace Cert.Proof.Algebraic

open Idealize.ShloMosaic Idealize.ShloMosaic.StableHlo Idealize.SL.Sem

/-- On logits whose rows' maxima are finite, kernel and reference leave the same array. -/
theorem algebraic : Cert.algebraic_KernelIdeal_ReferenceIdeal_pre_row_max_finite (hPre_row_max_finite := Cert.Proof.Pre.facts) := by
  intro m g m' g' hpre hagree
  letI := Cert.Proof.Pre.facts
  refine ⟨fun c => Cert.Proof.Array.sample (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.Proof.Array.final_eq m c), (h c).2⟩) (Cert.KernelIdeal.Value.run_blocks m g)
  · refine (θ_run Cert.ReferenceIdeal.defs _ _).mono (fun r h c => ⟨?_, (h c Cert.ReferenceIdeal.main_arg0).trans (Cert.Proof.RefRun.final_arg m' c)⟩)
      (Cert.Proof.RefRun.run m' g')
    have T := Cert.Proof.RefMain.terms (Cert.Proof.RefRun.final_settled m' c)
    have e : Cert.Proof.RefMain.logits (Cert.Proof.RefRun.final m' c)
        = m ((c.tc : Thread Cert.KernelIdeal.nD Cert.KernelIdeal.τ).loc Cert.KernelIdeal.main_arg0) :=
      (Cert.Proof.RefRun.final_arg m' c).trans (hagree c)
    refine (h c Cert.ReferenceIdeal.main_v34).trans ?_
    refine (Cert.Proof.RefValue.result_eq T fun p => ?_).trans (congrArg Cert.Proof.Array.sample e)
    rw [e]
    exact Cert.Proof.Pre.rows _ (hpre c) p

end Cert.Proof.Algebraic

end
-- ==== Proof.lean ====
/- The certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proof.Pre.facts,
  fun m ρ _ => Cert.Kernel.Gen.frame m ρ, fun m ρ _ => Cert.KernelIdeal.Gen.frame m ρ, fun m ρ _ => Cert.KernelIdeal.Gen.frame m ρ,
  Cert.Proof.RefRun.frame, fun m ρ _ => Cert.Proof.RefRun.frame m ρ trivial, trivial, Cert.Proof.Algebraic.algebraic⟩

end Cert.Proof

end
